-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v42) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8192x1024 : Shape := ⟨2, ![8192, 1024]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S8192x512 .f32) (main_arg3 : FVec F S8192x512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Pre_finite2.lean ====
abbrev S8192x1024 : Shape := ⟨2, ![8192, 1024]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : FVec F S8192x512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192x512 : Shape := ⟨2, ![8192, 512]⟩
abbrev S_ : Shape := ⟨0, ![]⟩
abbrev S8192x8x128 : Shape := ⟨3, ![8192, 8, 128]⟩
abbrev S8x8192x8192 : Shape := ⟨3, ![8, 8192, 8192]⟩
abbrev S8x8192 : Shape := ⟨2, ![8, 8192]⟩
abbrev S8x8192x1 : Shape := ⟨3, ![8, 8192, 1]⟩
abbrev S8192x8x64 : Shape := ⟨3, ![8192, 8, 64]⟩
abbrev S8x8192x64 : Shape := ⟨3, ![8, 8192, 64]⟩
abbrev S4x2x8192 : Shape := ⟨3, ![4, 2, 8192]⟩
abbrev S2048x256 : Shape := ⟨2, ![2048, 256]⟩
abbrev S2048x128 : Shape := ⟨2, ![2048, 128]⟩
abbrev S1x2x2048 : Shape := ⟨3, ![1, 2, 2048]⟩
abbrev S8192x256 : Shape := ⟨2, ![8192, 256]⟩
abbrev S8192x128 : Shape := ⟨2, ![8192, 128]⟩
abbrev S2x128x2048 : Shape := ⟨3, ![2, 128, 2048]⟩
abbrev S1x1x2048 : Shape := ⟨3, ![1, 1, 2048]⟩
abbrev S1x2048 : Shape := ⟨2, ![1, 2048]⟩
abbrev S512x128 : Shape := ⟨2, ![512, 128]⟩
abbrev S512x2048 : Shape := ⟨2, ![512, 2048]⟩
abbrev S1x128x2048 : Shape := ⟨3, ![1, 128, 2048]⟩
abbrev S128x2048 : Shape := ⟨2, ![128, 2048]⟩

abbrev nBuf : Space → Nat
  | .hbm => 48
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S_, .f32⟩
  | .hbm, ⟨6, _⟩ => ⟨S8192x8x128, .f32⟩
  | .hbm, ⟨7, _⟩ => ⟨S8192x8x128, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S_, .f32⟩
  | .hbm, ⟨13, _⟩ => ⟨S8x8192, .f32⟩
  | .hbm, ⟨14, _⟩ => ⟨S8x8192x1, .f32⟩
  | .hbm, ⟨15, _⟩ => ⟨S8x8192x8192, .f32⟩
  | .hbm, ⟨16, _⟩ => ⟨S8x8192x8192, .f32⟩
  | .hbm, ⟨17, _⟩ => ⟨S8x8192x8192, .f32⟩
  | .hbm, ⟨18, _⟩ => ⟨S_, .f32⟩
  | .hbm, ⟨19, _⟩ => ⟨S8x8192, .f32⟩
  | .hbm, ⟨20, _⟩ => ⟨S8x8192, .f32⟩
  | .hbm, ⟨21, _⟩ => ⟨S8x8192, .f32⟩
  | .hbm, ⟨22, _⟩ => ⟨S8x8192, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .f32⟩
  | .hbm, ⟨27, _⟩ => ⟨S8192x8x64, .f32⟩
  | .hbm, ⟨28, _⟩ => ⟨S8x8192x64, .f32⟩
  | .hbm, ⟨29, _⟩ => ⟨S8192x8x64, .f32⟩
  | .hbm, ⟨30, _⟩ => ⟨S8x8192x64, .f32⟩
  | .hbm, ⟨31, _⟩ => ⟨S8x8192x64, .f32⟩
  | .hbm, ⟨32, _⟩ => ⟨S_, .f32⟩
  | .hbm, ⟨33, _⟩ => ⟨S8x8192, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S8192x1024, .bf16⟩
  | .hbm, ⟨41, _⟩ => ⟨S8192x512, .bf16⟩
  | .hbm, ⟨42, _⟩ => ⟨S8192x512, .bf16⟩
  | .hbm, ⟨43, _⟩ => ⟨S4x2x8192, .f32⟩
  | .hbm, ⟨44, _⟩ => ⟨S4x2x8192, .f32⟩
  | .hbm, ⟨45, _⟩ => ⟨S8192x1024, .f32⟩
  | .hbm, ⟨46, _⟩ => ⟨S8192x1024, .f32⟩
  | .hbm, ⟨47, _⟩ => ⟨S8192x512, .f32⟩
  | .local _ .vmem, ⟨0, _⟩ => ⟨S2048x256, .bf16⟩
  | .local _ .vmem, ⟨1, _⟩ => ⟨S2048x256, .bf16⟩
  | .local _ .vmem, ⟨2, _⟩ => ⟨S2048x128, .bf16⟩
  | .local _ .vmem, ⟨3, _⟩ => ⟨S2048x128, .bf16⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | .local _ .vmem, ⟨7, _⟩ => ⟨S1x2x2048, .f32⟩
  | .local _ .vmem, ⟨8, _⟩ => ⟨S8192x256, .bf16⟩
  | .local _ .vmem, ⟨9, _⟩ => ⟨S8192x256, .bf16⟩
  | .local _ .vmem, ⟨10, _⟩ => ⟨S8192x128, .bf16⟩
  | .local _ .vmem, ⟨11, _⟩ => ⟨S8192x128, .bf16⟩
  | .local _ .vmem, ⟨12, _⟩ => ⟨S2048x256, .f32⟩
  | .local _ .vmem, ⟨13, _⟩ => ⟨S2048x256, .f32⟩
  | .local _ .vmem, ⟨14, _⟩ => ⟨S8192x256, .f32⟩
  | .local _ .vmem, ⟨15, _⟩ => ⟨S8192x256, .f32⟩
  | .local _ .vmem, ⟨16, _⟩ => ⟨S8192x128, .f32⟩
  | .local _ .vmem, ⟨17, _⟩ => ⟨S8192x128, .f32⟩
  | .local _ .vmem, ⟨18, _⟩ => ⟨S2x128x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev main_v35_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_21 : BitVec 32 := 0#32
  let c16_i32 : BitVec 32 := 16#32
  let v29 : BitVec 32 := Scalar.addi c0_i32_21 c16_i32
  let c1_i32 : BitVec 32 := 1#32
  ⟨c0_i32_21, v29, c1_i32⟩
def k0_mult1 (k0_t1 : Fin k0_t1_loop.trips) : BitVec 32 :=
  let c0_i32_21 : BitVec 32 := 0#32
  let c1_i32 : BitVec 32 := 1#32
  let arg12 : BitVec 32 := Scf.iv c0_i32_21 c1_i32 k0_t1
  let c512_i32 : BitVec 32 := 512#32
  let v38 : BitVec 32 := Scalar.muli arg12 c512_i32
  v38
def k0_off1 (k0_t1 : Fin k0_t1_loop.trips) : Fin 2 → Nat :=
  let c0_i32_21 : BitVec 32 := 0#32
  let c1_i32 : BitVec 32 := 1#32
  let arg12 : BitVec 32 := Scf.iv c0_i32_21 c1_i32 k0_t1
  let c512_i32 : BitVec 32 := 512#32
  let v38 : BitVec 32 := Scalar.muli arg12 c512_i32
  let v39 : BitVec 32 := v38
  let v40 : Index := Scalar.indexCast v39
  let c0_33 : Index := 0#32
  ![v40.toNat, 0]
def k0_off2 (k0_t1 : Fin k0_t1_loop.trips) : Fin 2 → Nat :=
  let c0_i32_21 : BitVec 32 := 0#32
  let c1_i32 : BitVec 32 := 1#32
  let arg12 : BitVec 32 := Scf.iv c0_i32_21 c1_i32 k0_t1
  let c512_i32 : BitVec 32 := 512#32
  let v38 : BitVec 32 := Scalar.muli arg12 c512_i32
  let v39 : BitVec 32 := v38
  let v51 : Index := Scalar.indexCast v39
  let c0_37 : Index := 0#32
  ![v51.toNat, 0]
def k0_off3 (k0_t1 : Fin k0_t1_loop.trips) : Fin 2 → Nat :=
  let c0_i32_21 : BitVec 32 := 0#32
  let c1_i32 : BitVec 32 := 1#32
  let arg12 : BitVec 32 := Scf.iv c0_i32_21 c1_i32 k0_t1
  let c512_i32 : BitVec 32 := 512#32
  let v38 : BitVec 32 := Scalar.muli arg12 c512_i32
  let v39 : BitVec 32 := v38
  let v88 : Index := Scalar.indexCast v39
  let c128_54 : Index := 128#32
  ![v88.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x1024 : Shape := ⟨2, ![8192, 1024]⟩
abbrev S8192x512 : Shape := ⟨2, ![8192, 512]⟩
abbrev S_ : Shape := ⟨0, ![]⟩
abbrev S8192x8x128 : Shape := ⟨3, ![8192, 8, 128]⟩
abbrev S8x8192x8192 : Shape := ⟨3, ![8, 8192, 8192]⟩
abbrev S8x8192 : Shape := ⟨2, ![8, 8192]⟩
abbrev S8x8192x1 : Shape := ⟨3, ![8, 8192, 1]⟩
abbrev S8192x8x64 : Shape := ⟨3, ![8192, 8, 64]⟩
abbrev S8x64x8192 : Shape := ⟨3, ![8, 64, 8192]⟩
abbrev S8x8192x128 : Shape := ⟨3, ![8, 8192, 128]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x8x128, .f32⟩
  | .hbm, ⟨8, _⟩ => ⟨S8192x8x128, .f32⟩
  | .hbm, ⟨9, _⟩ => ⟨S8x8192x8192, .f32⟩
  | .hbm, ⟨10, _⟩ => ⟨S_, .f32⟩
  | .hbm, ⟨11, _⟩ => ⟨S8x8192, .f32⟩
  | .hbm, ⟨12, _⟩ => ⟨S8x8192x1, .f32⟩
  | .hbm, ⟨13, _⟩ => ⟨S8x8192x8192, .f32⟩
  | .hbm, ⟨14, _⟩ => ⟨S8x8192x8192, .i1⟩
  | .hbm, ⟨15, _⟩ => ⟨S8x8192x8192, .f32⟩
  | .hbm, ⟨16, _⟩ => ⟨S_, .f32⟩
  | .hbm, ⟨17, _⟩ => ⟨S8x8192, .f32⟩
  | .hbm, ⟨18, _⟩ => ⟨S_, .f32⟩
  | .hbm, ⟨19, _⟩ => ⟨S8x8192, .f32⟩
  | .hbm, ⟨20, _⟩ => ⟨S8x8192, .f32⟩
  | .hbm, ⟨21, _⟩ => ⟨S_, .f32⟩
  | .hbm, ⟨22, _⟩ => ⟨S8x8192, .f32⟩
  | .hbm, ⟨23, _⟩ => ⟨S8x8192, .i1⟩
  | .hbm, ⟨24, _⟩ => ⟨S_, .f32⟩
  | .hbm, ⟨25, _⟩ => ⟨S8x8192, .f32⟩
  | .hbm, ⟨26, _⟩ => ⟨S8x8192, .i1⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S8x8192x1, .f32⟩
  | .hbm, ⟨42, _⟩ => ⟨S8x8192x8192, .f32⟩
  | .hbm, ⟨43, _⟩ => ⟨S8x8192x8192, .f32⟩
  | .hbm, ⟨44, _⟩ => ⟨S8x8192x1, .f32⟩
  | .hbm, ⟨45, _⟩ => ⟨S_, .f32⟩
  | .hbm, ⟨46, _⟩ => ⟨S8x8192x1, .f32⟩
  | .hbm, ⟨47, _⟩ => ⟨S8x8192x1, .f32⟩
  | .hbm, ⟨48, _⟩ => ⟨S8192x8x64, .f32⟩
  | .hbm, ⟨49, _⟩ => ⟨S8x64x8192, .f32⟩
  | .hbm, ⟨50, _⟩ => ⟨S8192x8x64, .f32⟩
  | .hbm, ⟨51, _⟩ => ⟨S8192x512, .f32⟩
  | .hbm, ⟨52, _⟩ => ⟨S8192x8x64, .f32⟩
  | .hbm, ⟨53, _⟩ => ⟨S8x64x8192, .f32⟩
  | .hbm, ⟨54, _⟩ => ⟨S8x8192x8192, .f32⟩
  | .hbm, ⟨55, _⟩ => ⟨S8x64x8192, .f32⟩
  | .hbm, ⟨56, _⟩ => ⟨S8192x8x64, .f32⟩
  | .hbm, ⟨57, _⟩ => ⟨S8192x512, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S8x8192x1, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S8x8192, .f32⟩
  | .hbm, ⟨69, _⟩ => ⟨S8x8192x8192, .f32⟩
  | .hbm, ⟨70, _⟩ => ⟨S8x8192x8192, .f32⟩
  | .hbm, ⟨71, _⟩ => ⟨S8x8192x8192, .f32⟩
  | .hbm, ⟨72, _⟩ => ⟨S8x8192x128, .f32⟩
  | .hbm, ⟨73, _⟩ => ⟨S8192x8x128, .f32⟩
  | .hbm, ⟨74, _⟩ => ⟨S8x8192x128, .f32⟩
  | .hbm, ⟨75, _⟩ => ⟨S8192x8x128, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S_, .f32⟩
  | .hbm, ⟨80, _⟩ => ⟨S8192x1024, .f32⟩
  | .hbm, ⟨81, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Kernel2.lean ====
abbrev S8192x1024 : Shape := ⟨2, ![8192, 1024]⟩
abbrev S8192x512 : Shape := ⟨2, ![8192, 512]⟩
abbrev S_ : Shape := ⟨0, ![]⟩
abbrev S4x2x8192 : Shape := ⟨3, ![4, 2, 8192]⟩
abbrev S4096x256 : Shape := ⟨2, ![4096, 256]⟩
abbrev S8192x256 : Shape := ⟨2, ![8192, 256]⟩
abbrev S8192x128 : Shape := ⟨2, ![8192, 128]⟩
abbrev S4096x128 : Shape := ⟨2, ![4096, 128]⟩
abbrev S1x2x4096 : Shape := ⟨3, ![1, 2, 4096]⟩
abbrev S2x128x4096 : Shape := ⟨3, ![2, 128, 4096]⟩
abbrev S1x4096 : Shape := ⟨2, ![1, 4096]⟩
abbrev S512x128 : Shape := ⟨2, ![512, 128]⟩
abbrev S512x4096 : Shape := ⟨2, ![512, 4096]⟩
abbrev S4096 : Shape := ⟨1, ![4096]⟩
abbrev S1x128x4096 : Shape := ⟨3, ![1, 128, 4096]⟩
abbrev S128x4096 : Shape := ⟨2, ![128, 4096]⟩
abbrev S1x1x4096 : Shape := ⟨3, ![1, 1, 4096]⟩

abbrev nBuf : Space → Nat
  | .hbm => 15
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S8192x1024, .bf16⟩
  | .hbm, ⟨12, _⟩ => ⟨S8192x512, .bf16⟩
  | .hbm, ⟨13, _⟩ => ⟨S8192x512, .f32⟩
  | .hbm, ⟨14, _⟩ => ⟨S4x2x8192, .f32⟩
  | .local _ .vmem, ⟨0, _⟩ => ⟨S4096x256, .bf16⟩
  | .local _ .vmem, ⟨1, _⟩ => ⟨S4096x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S4096x128, .f32⟩
  | .local _ .vmem, ⟨7, _⟩ => ⟨S4096x128, .f32⟩
  | .local _ .vmem, ⟨8, _⟩ => ⟨S1x2x4096, .f32⟩
  | .local _ .vmem, ⟨9, _⟩ => ⟨S1x2x4096, .f32⟩
  | .local _ .vmem, ⟨10, _⟩ => ⟨S2x128x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v42 : BitVec 32 := Scalar.muli arg8 c512_i32
  v42
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v42 : BitVec 32 := Scalar.muli arg8 c512_i32
  let v43 : BitVec 32 := v42
  let v44 : Index := Scalar.indexCast v43
  let c0_23 : Index := 0#32
  ![v44.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v42 : BitVec 32 := Scalar.muli arg8 c512_i32
  let v43 : BitVec 32 := v42
  let v47 : Index := Scalar.indexCast v43
  let c0_24 : Index := 0#32
  ![v47.toNat, 0]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v42 : BitVec 32 := Scalar.muli arg8 c512_i32
  let v43 : BitVec 32 := v42
  let v73 : Index := Scalar.indexCast v43
  let c128_35 : Index := 128#32
  ![v73.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x1024 : Shape := ⟨2, ![8192, 1024]⟩
abbrev S8192x512 : Shape := ⟨2, ![8192, 512]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8192x8x64 : Shape := ⟨3, ![8192, 8, 64]⟩
abbrev S8x64x8192 : Shape := ⟨3, ![8, 64, 8192]⟩
abbrev S4x2x8192 : Shape := ⟨3, ![4, 2, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x8x128, .f32⟩
  | .hbm, ⟨4, _⟩ => ⟨S8192x8x128, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S8x8192x8192, .f32⟩
  | .hbm, ⟨13, _⟩ => ⟨S8x8192x8192, .f32⟩
  | .hbm, ⟨14, _⟩ => ⟨S8x8192x8192, .f32⟩
  | .hbm, ⟨15, _⟩ => ⟨S_, .f32⟩
  | .hbm, ⟨16, _⟩ => ⟨S8x8192, .f32⟩
  | .hbm, ⟨17, _⟩ => ⟨S8x8192, .f32⟩
  | .hbm, ⟨18, _⟩ => ⟨S8x8192, .f32⟩
  | .hbm, ⟨19, _⟩ => ⟨S_, .f32⟩
  | .hbm, ⟨20, _⟩ => ⟨S_, .f32⟩
  | .hbm, ⟨21, _⟩ => ⟨S8x8192, .f32⟩
  | .hbm, ⟨22, _⟩ => ⟨S8x8192, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x8x128, .f32⟩
  | .hbm, ⟨27, _⟩ => ⟨S8192x8x128, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8192x8x64, .f32⟩
  | .hbm, ⟨44, _⟩ => ⟨S8x64x8192, .f32⟩
  | .hbm, ⟨45, _⟩ => ⟨S8192x8x64, .f32⟩
  | .hbm, ⟨46, _⟩ => ⟨S8192x512, .f32⟩
  | .hbm, ⟨47, _⟩ => ⟨S4x2x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel3.lean ====
abbrev S8192x5632 : Shape := ⟨2, ![8192, 5632]⟩
abbrev S8192x1024 : Shape := ⟨2, ![8192, 1024]⟩
abbrev S1024 : Shape := ⟨1, ![1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S8x1024 : Shape := ⟨2, ![8, 1024]⟩
abbrev S512x5632 : Shape := ⟨2, ![512, 5632]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x5632, .f32⟩
  | .hbm, ⟨5, _⟩ => ⟨S1024x4x1408, .f32⟩
  | .hbm, ⟨6, _⟩ => ⟨S4x1024x1408, .f32⟩
  | .hbm, ⟨7, _⟩ => ⟨S8192x5632, .bf16⟩
  | .hbm, ⟨8, _⟩ => ⟨S1x1024, .f32⟩
  | .hbm, ⟨9, _⟩ => ⟨S4x1024x1408, .bf16⟩
  | .hbm, ⟨10, _⟩ => ⟨S8192x1024, .f32⟩
  | .hbm, ⟨11, _⟩ => ⟨S8192x1024, .bf16⟩
  | .hbm, ⟨12, _⟩ => ⟨S8x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1408, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S8192x5632 : Shape := ⟨2, ![8192, 5632]⟩
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel4.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Pay.lean ====
/- The arithmetic of the attention backward kernel's body, one stored value at a time, read at an index. -/
module

public import proofs.«01_k».proof.Proof.Gen.KernelIdeal.Loops
public import Idealize.ShloMosaic.Lib.Pipeline.ValueKit
public import Idealize.ShloMosaic.Lib.WritesUnit

@[expose] public section

set_option maxRecDepth 16384

noncomputable section

namespace Cert.KernelIdeal.Value

open Cert.KernelIdeal Cert.KernelIdeal.Gen
open Idealize.ShloMosaic Idealize.ShloMosaic.TcCoe Idealize.SL.Sem

/-- The weight of query `q` for the key row `K`: two to the power of the product less the row's logarithm. -/
def wt (A : FVec Ideal S2048x128 .bf16) (L : FVec Ideal S1x2048 .f32) (K : Fin 128 → EReal) (q : Fin 2048) : EReal :=
  Ideal.exp2 ((∑ l : Fin 128, K l * A (ix2 q l)) - L (ix2 0 q))

/-- The weight's gradient: the weight times the value row's product less the row's correction. -/
def dwt (A : FVec Ideal S2048x128 .bf16) (L : FVec Ideal S1x2048 .f32) (O : FVec Ideal S2048x128 .bf16)
    (D : FVec Ideal S1x2048 .f32) (K V : Fin 128 → EReal) (q : Fin 2048) : EReal :=
  wt A L K q * ((∑ l : Fin 128, V l * O (ix2 q l)) - D (ix2 0 q))

/-- The lower half of a row of two heads' values, the other half zero. -/
def lo64 (V : Fin 128 → EReal) (l : Fin 128) : EReal := if l.val < 64 then V l else 0

/-- The upper half of a row of two heads' values, the other half zero. -/
def hi64 (V : Fin 128 → EReal) (l : Fin 128) : EReal := if 64 ≤ l.val then V l else 0

theorem slt64 : ∀ l : Fin 128, IntOp.cmpi CmpIPredicate.slt (BitVec.ofNat 32 l.val) 64#32 = if l.val < 64 then 1 else 0 := by
  decide +kernel

theorem sge64 : ∀ l : Fin 128, IntOp.cmpi CmpIPredicate.sge (BitVec.ofNat 32 l.val) 64#32 = if 64 ≤ l.val then 1 else 0 := by
  decide +kernel

theorem sel_slt (l : Fin 128) (a b : EReal) :
    Scalar.select (IntOp.cmpi CmpIPredicate.slt (BitVec.ofNat 32 l.val) 64#32) a b = if l.val < 64 then a else b := by
  rw [slt64]; split <;> rfl

theorem sel_sge (l : Fin 128) (a b : EReal) :
    Scalar.select (IntOp.cmpi CmpIPredicate.sge (BitVec.ofNat 32 l.val) 64#32) a b = if 64 ≤ l.val then a else b := by
  rw [sge64]; split <;> rfl

theorem pay7_apply (v8 : FVec Ideal S2048x128 .bf16) (v22 : FVec Ideal S1x2048 .f32) (v52 : Vec Ideal S512x128 .bf16)
    (j : Fin 512) (q : Fin 2048) :
    k0_pay7 v8 v22 v52 (ix2 j q) = wt v8 v22 (fun l => v52 (ix2 j l)) q := by
  pointwise [k0_pay7, wt]
  rfl

theorem pay12_apply (v8 : FVec Ideal S2048x128 .bf16) (v22 : FVec Ideal S1x2048 .f32) (v52 : Vec Ideal S512x128 .bf16)
    (j : Fin 512) (q : Fin 2048) :
    k0_pay12 v8 v22 v52 (ix2 j q) = wt v8 v22 (fun l => v52 (ix2 j l)) q := by
  pointwise [k0_pay12, wt]
  rfl

theorem pay6_apply (v41 : Vec Ideal S512x128 .bf16) (j : Fin 512) (l : Fin 128) :
    k0_pay6 v41 (ix2 j l) = hi64 (fun l => v41 (ix2 j l)) l := by
  pointwise [k0_pay6, k0_pay4, k0_pay5]
  exact sel_sge _ _ _

theorem pay8_apply (v8 v12 : FVec Ideal S2048x128 .bf16) (v22 v26 : FVec Ideal S1x2048 .f32) (v41 v52 : Vec Ideal S512x128 .bf16)
    (j : Fin 512) (q : Fin 2048) :
    k0_pay8 v8 v12 v22 v26 v41 v52 (ix2 j q)
      = dwt v8 v22 v12 v26 (fun l => v52 (ix2 j l)) (lo64 fun l => v41 (ix2 j l)) q := by
  pointwise [k0_pay8, k0_pay4, k0_pay5, dwt, pay7_apply]
  refine congrArg (fun z => wt v8 v22 (fun l => v52 (ix2 j l)) q * (z - v26 (ix2 0 q))) ?_
  refine Finset.sum_congr rfl fun x _ => ?_
  rw [sel_slt, lo64]
  split
  · rfl
  · exact (zero_mul _).symm

theorem pay13_apply (v8 v12 : FVec Ideal S2048x128 .bf16) (v22 v26 : FVec Ideal S1x2048 .f32) (v50 v52 : Vec Ideal S512x128 .bf16)
    (j : Fin 512) (q : Fin 2048) :
    k0_pay13 v8 v12 v22 v26 v50 v52 (ix2 j q) = dwt v8 v22 v12 v26 (fun l => v52 (ix2 j l)) (fun l => v50 (ix2 j l)) q := by
  pointwise [k0_pay13, dwt, pay12_apply]

theorem pay9_apply (v8 v17 : FVec Ideal S2048x128 .bf16) (v22 : FVec Ideal S1x2048 .f32) (v52 : Vec Ideal S512x128 .bf16)
    (v64 : Vec Ideal S512x128 .f32) (j : Fin 512) (l : Fin 128) :
    k0_pay9 v8 v17 v22 v52 v64 (ix2 j l)
      = v64 (ix2 j l) + ∑ q : Fin 2048, wt v8 v22 (fun l => v52 (ix2 j l)) q * v17 (ix2 q l) := by
  pointwise [k0_pay9, pay7_apply]

theorem pay14_apply (v8 v17 : FVec Ideal S2048x128 .bf16) (v22 : FVec Ideal S1x2048 .f32) (v52 : Vec Ideal S512x128 .bf16)
    (v64 : Vec Ideal S512x128 .f32) (j : Fin 512) (l : Fin 128) :
    k0_pay14 v8 v17 v22 v52 v64 (ix2 j l)
      = v64 (ix2 j l) + ∑ q : Fin 2048, wt v8 v22 (fun l => v52 (ix2 j l)) q * v17 (ix2 q l) := by
  pointwise [k0_pay14, pay12_apply]

theorem pay10_apply (v8 v12 : FVec Ideal S2048x128 .bf16) (v22 v26 : FVec Ideal S1x2048 .f32) (v41 v52 : Vec Ideal S512x128 .bf16)
    (v72 : Vec Ideal S512x128 .f32) (j : Fin 512) (l : Fin 128) :
    k0_pay10 v8 v12 v22 v26 v41 v52 v72 (ix2 j l)
      = v72 (ix2 j l) + ∑ q : Fin 2048,
          dwt v8 v22 v12 v26 (fun l => v52 (ix2 j l)) (lo64 fun l => v41 (ix2 j l)) q * v8 (ix2 q l) := by
  pointwise [k0_pay10, pay8_apply]

theorem pay15_apply (v8 v12 : FVec Ideal S2048x128 .bf16) (v22 v26 : FVec Ideal S1x2048 .f32) (v50 v52 : Vec Ideal S512x128 .bf16)
    (v72 : Vec Ideal S512x128 .f32) (j : Fin 512) (l : Fin 128) :
    k0_pay15 v8 v12 v22 v26 v50 v52 v72 (ix2 j l)
      = v72 (ix2 j l) + ∑ q : Fin 2048,
          dwt v8 v22 v12 v26 (fun l => v52 (ix2 j l)) (fun l => v50 (ix2 j l)) q * v8 (ix2 q l) := by
  pointwise [k0_pay15, pay13_apply]

theorem pay11_apply (v62 : FVec Ideal S512x2048 .bf16) (v78 : Vec Ideal S1x128x2048 .f32) (v81 : Vec Ideal S512x128 .bf16)
    (l : Fin 128) (q : Fin 2048) :
    k0_pay11 v62 v78 v81 (ix3 0 l q) = v78 (ix3 0 l q) + ∑ j : Fin 512, v81 (ix2 j l) * v62 (ix2 j q) := by
  pointwise [k0_pay11]

theorem pay1_apply (v62 : FVec Ideal S512x2048 .bf16) (v78 : Vec Ideal S1x128x2048 .f32) (v81 : Vec Ideal S512x128 .bf16)
    (l : Fin 128) (q : Fin 2048) :
    k0_pay1 v62 (k0_pay16 v78) v81 (ix3 0 l q) = v78 (ix3 0 l q) + ∑ j : Fin 512, v81 (ix2 j l) * v62 (ix2 j q) := by
  pointwise [k0_pay1, k0_pay16]

theorem pay2_apply (v : Vec Ideal S1x128x2048 .f32) (q : Fin 2048) (l : Fin 128) : k0_pay2 v (ix2 q l) = v (ix3 0 l q) := by
  pointwise [k0_pay2]
theorem pay3_apply (v : Vec Ideal S1x128x2048 .f32) (q : Fin 2048) (l : Fin 128) : k0_pay3 v (ix2 q l) = v (ix3 0 l q) := by
  pointwise [k0_pay3]
theorem pay17_apply (i : S8192x256.Idx) : k0_pay17 (F := Ideal) i = 0 := by pointwise [k0_pay17]
theorem pay18_apply (i : S8192x128.Idx) : k0_pay18 (F := Ideal) i = 0 := by pointwise [k0_pay18]
theorem pay19_apply (i : S2x128x2048.Idx) : k0_pay19 (F := Ideal) i = 0 := by pointwise [k0_pay19]
theorem pay20_apply (v : Vec Ideal S2048x128 .bf16) (q : Fin 2048) (l : Fin 128) : k0_pay20 v (ix2 q l) = v (ix2 q l) := by
  pointwise [k0_pay20]
theorem pay21_apply (v : Vec Ideal S2048x128 .bf16) (q : Fin 2048) (l : Fin 128) : k0_pay21 v (ix2 q l) = v (ix2 q l) := by
  pointwise [k0_pay21]
theorem pay22_apply (v : Vec Ideal S2048x128 .bf16) (q : Fin 2048) (l : Fin 128) : k0_pay22 v (ix2 q l) = v (ix2 q l) := by
  pointwise [k0_pay22]
theorem pay24_apply (v : Vec Ideal S2048x128 .bf16) (q : Fin 2048) (l : Fin 128) :
    k0_pay24 v (ix2 q l) = lo64 (fun l => v (ix2 q l)) l := by
  pointwise [k0_pay24, k0_pay22, k0_pay23]
  exact sel_slt _ _ _
theorem pay25_apply (v : Vec Ideal S2048x128 .bf16) (q : Fin 2048) (l : Fin 128) :
    k0_pay25 v (ix2 q l) = hi64 (fun l => v (ix2 q l)) l := by
  pointwise [k0_pay25, k0_pay22, k0_pay23]
  exact sel_sge _ _ _
theorem pay26_apply (v : Vec Ideal S1x1x2048 .f32) (q : Fin 2048) : k0_pay26 v (ix2 0 q) = v (ix3 0 0 q) := by pointwise [k0_pay26]
theorem pay27_apply (v : Vec Ideal S1x1x2048 .f32) (q : Fin 2048) : k0_pay27 v (ix2 0 q) = v (ix3 0 0 q) := by pointwise [k0_pay27]
theorem pay28_apply (v : Vec Ideal S1x1x2048 .f32) (q : Fin 2048) : k0_pay28 v (ix2 0 q) = v (ix3 0 0 q) := by pointwise [k0_pay28]
theorem pay29_apply (v : Vec Ideal S1x1x2048 .f32) (q : Fin 2048) : k0_pay29 v (ix2 0 q) = v (ix3 0 0 q) := by pointwise [k0_pay29]

end Cert.KernelIdeal.Value

end
-- ==== Proof.Trip.lean ====
/- What one trip over a chunk of 512 keys leaves in the three running buffers, entry by entry. -/
module

public import proofs.«01_k».proof.Proof.Pay

@[expose] public section

set_option maxRecDepth 16384

noncomputable section

namespace Cert.KernelIdeal.Value

open Cert.KernelIdeal Cert.KernelIdeal.Gen
open Idealize.ShloMosaic Idealize.ShloMosaic.TcCoe Idealize.SL.Sem

/-- Row `r` of the keys, first head. -/
def kr0 (X : FVec Ideal S8192x256 .bf16) (r : Fin 8192) (l : Fin 128) : EReal := X (ix2 r ⟨l.val, by omega⟩)
/-- Row `r` of the keys, second head. -/
def kr1 (X : FVec Ideal S8192x256 .bf16) (r : Fin 8192) (l : Fin 128) : EReal := X (ix2 r ⟨128 + l.val, by omega⟩)
/-- Row `r` of the values, first head's lanes. -/
def vr0 (X : FVec Ideal S8192x128 .bf16) (r : Fin 8192) : Fin 128 → EReal := lo64 fun l => X (ix2 r l)
/-- Row `r` of the values, second head's lanes. -/
def vr1 (X : FVec Ideal S8192x128 .bf16) (r : Fin 8192) : Fin 128 → EReal := hi64 fun l => X (ix2 r l)

/-- A load through a unit rectangle, at an index: the buffer at the offset plus the index. -/
theorem ld_at {sg : RefSig} {κ : Kind} {sp : Space} {s : Shape} {e : EltTy} (v : View sg κ sp s e) (X : BufTy.Contents (Elt Ideal) v.ty)
    {off o size : Fin s.rank → ℕ} {inb : ∀ a, off a + size a ≤ s.size a} (heq : off = o) (j : (Rect.unit off size inb).toLoadRect.shape.Idx) (y : s.Idx)
    (hy : ∀ a, (y a).val = o a + (j a).val) :
    v.readAt (Elt Ideal) (Rect.unit off size inb).toLoadRect X j = v.read (Elt Ideal) X y := by
  subst heq
  rw [View.readAt_apply]
  refine congrArg _ (funext fun a => Fin.ext ?_)
  show off a + 1 * (j a).val = _
  rw [hy a, Nat.one_mul]

variable (𝒱 : Variants) (c : Dev nD) (bd : Option 𝒱.V) (i : grid0.Coords) (arg2 : Memref sig .tc .vmem S2048x256 .bf16) (harg2 : arg2.IsWhole) (arg3 : Memref sig .tc .vmem S2048x128 .bf16) (harg3 : arg3.IsWhole) (arg4 : Memref sig .tc .vmem S1x2x2048 .f32) (harg4 : arg4.IsWhole) (arg5 : Memref sig .tc .vmem S1x2x2048 .f32) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S2048x256 .f32) (harg8 : arg8.IsWhole) (arg9 : Memref sig .tc .vmem S8192x256 .f32) (harg9 : arg9.IsWhole) (arg10 : Memref sig .tc .vmem S8192x128 .f32) (harg10 : arg10.IsWhole) (arg11 : Memref sig .tc .vmem S2x128x2048 .f32) (harg11 : arg11.IsWhole)
  (v8 v10 v12 v17 v20 : FVec Ideal S2048x128 .bf16) (v22 v24 v26 v28 : FVec Ideal S1x2048 .f32) (X6 : BufTy.Contents (Elt Ideal) arg6.view.ty) (X7 : BufTy.Contents (Elt Ideal) arg7.view.ty) (k : Fin k0_t1_loop.trips)
  (f9 : BufTy.Contents (Elt Ideal) arg9.view.ty) (f10 : BufTy.Contents (Elt Ideal) arg10.view.ty) (f11 : BufTy.Contents (Elt Ideal) arg11.view.ty)

theorem trip10 (r : Fin 8192) (l : Fin 128) :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 k).2.1 f9 f10 f11)) (ix2 r l)
      = if 512 * k.val ≤ r.val ∧ r.val < 512 * k.val + 512 then
          arg10.view.read (Elt Ideal) f10 (ix2 r l) + (∑ q : Fin 2048, wt v8 v22 (kr0 (arg6.view.read (Elt Ideal) X6) r) q * v17 (ix2 q l))
            + ∑ q : Fin 2048, wt v10 v24 (kr1 (arg6.view.read (Elt Ideal) X6) r) q * v20 (ix2 q l)
        else arg10.view.read (Elt Ideal) f10 (ix2 r l) := by
  unfold trip_k0_t1
  dsimp only
  sl_unfold_words
  split
  · rename_i h
    refine (View.read_writes_cons_unit_of_mem _ _ _ _ _ _ (ix2 ⟨r.val - 512 * k.val, by omega⟩ l) (k0_off1_eq k) ?_).trans ?_
    · intro a; match a with
      | 0 => show r.val = 512 * k.val + (r.val - 512 * k.val); omega
      | 1 => show l.val = 0 + l.val; omega
    refine (pay14_apply _ _ _ _ _ _ _).trans ?_
    refine congrArg₂ (fun a b : EReal => a + b) ((congrFun (View.readCov_cons_toLoadRect _ _ _ _) _).trans
      ((pay9_apply _ _ _ _ _ _ _).trans (congrArg₂ (fun a b : EReal => a + b) (ld_at arg10.view f10 (k0_off1_eq k) _ _ ?_) ?_))) ?_
    · intro a; match a with
      | 0 => show r.val = 512 * k.val + (r.val - 512 * k.val); omega
      | 1 => show l.val = 0 + l.val; omega
    · refine Finset.sum_congr rfl fun q _ => congrArg (fun K => wt v8 v22 K q * v17 (ix2 q l)) (funext fun l' => ?_)
      refine ld_at arg6.view X6 (k0_off2_eq k) _ _ ?_
      intro a; match a with
      | 0 => show r.val = 512 * k.val + (r.val - 512 * k.val); omega
      | 1 => show l'.val = 0 + l'.val; omega
    · refine Finset.sum_congr rfl fun q _ => congrArg (fun K => wt v10 v24 K q * v20 (ix2 q l)) (funext fun l' => ?_)
      refine ld_at arg6.view X6 (k0_off3_eq k) _ _ ?_
      intro a; match a with
      | 0 => show r.val = 512 * k.val + (r.val - 512 * k.val); omega
      | 1 => rfl
  · rename_i h
    refine (View.read_writes_cons_unit_of_not_mem _ _ _ _ _ _ (k0_off1_eq k) 0 ?_).trans ?_
    · show r.val < 512 * k.val ∨ 512 * k.val + 512 ≤ r.val; omega
    refine (View.read_writes_cons_unit_of_not_mem _ _ _ _ _ _ (k0_off1_eq k) 0 ?_).trans ?_
    · show r.val < 512 * k.val ∨ 512 * k.val + 512 ≤ r.val; omega
    rfl

theorem trip9a (r : Fin 8192) (l : Fin 128) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 k).1 f9 f10 f11)) (ix2 r ⟨l.val, by omega⟩)
      = if 512 * k.val ≤ r.val ∧ r.val < 512 * k.val + 512 then
          arg9.view.read (Elt Ideal) f9 (ix2 r ⟨l.val, by omega⟩) + ∑ q : Fin 2048, dwt v8 v22 v12 v26 (kr0 (arg6.view.read (Elt Ideal) X6) r) (vr0 (arg7.view.read (Elt Ideal) X7) r) q * v8 (ix2 q l)
        else arg9.view.read (Elt Ideal) f9 (ix2 r ⟨l.val, by omega⟩) := by
  unfold trip_k0_t1
  dsimp only
  sl_unfold_words
  refine (View.read_writes_cons_unit_of_not_mem _ _ _ _ _ _ (k0_off3_eq k) 1 ?_).trans ?_
  · show l.val < 128 ∨ 128 + 128 ≤ l.val; omega
  split
  · rename_i h
    refine (View.read_writes_cons_unit_of_mem _ _ _ _ _ _ (ix2 ⟨r.val - 512 * k.val, by omega⟩ l) (k0_off2_eq k) ?_).trans ?_
    · intro a; match a with
      | 0 => show r.val = 512 * k.val + (r.val - 512 * k.val); omega
      | 1 => show l.val = 0 + l.val; omega
    refine (pay10_apply _ _ _ _ _ _ _ _ _).trans ?_
    refine congrArg₂ (fun a b : EReal => a + b) (ld_at arg9.view f9 (k0_off2_eq k) _ _ ?_) ?_
    · intro a; match a with
      | 0 => show r.val = 512 * k.val + (r.val - 512 * k.val); omega
      | 1 => show l.val = 0 + l.val; omega
    · refine Finset.sum_congr rfl fun q _ => congrArg₂ (fun K V => dwt v8 v22 v12 v26 K V q * v8 (ix2 q l)) (funext fun l' => ?_) (congrArg lo64 (funext fun l' => ?_))
      · refine ld_at arg6.view X6 (k0_off2_eq k) _ _ ?_
        intro a; match a with
        | 0 => show r.val = 512 * k.val + (r.val - 512 * k.val); omega
        | 1 => show l'.val = 0 + l'.val; omega
      · refine ld_at arg7.view X7 (k0_off1_eq k) _ _ ?_
        intro a; match a with
        | 0 => show r.val = 512 * k.val + (r.val - 512 * k.val); omega
        | 1 => show l'.val = 0 + l'.val; omega
  · rename_i h
    refine (View.read_writes_cons_unit_of_not_mem _ _ _ _ _ _ (k0_off2_eq k) 0 ?_).trans ?_
    · show r.val < 512 * k.val ∨ 512 * k.val + 512 ≤ r.val; omega
    rfl

theorem trip9b (r : Fin 8192) (l : Fin 128) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 k).1 f9 f10 f11)) (ix2 r ⟨128 + l.val, by omega⟩)
      = if 512 * k.val ≤ r.val ∧ r.val < 512 * k.val + 512 then
          arg9.view.read (Elt Ideal) f9 (ix2 r ⟨128 + l.val, by omega⟩) + ∑ q : Fin 2048, dwt v10 v24 v12 v28 (kr1 (arg6.view.read (Elt Ideal) X6) r) (vr1 (arg7.view.read (Elt Ideal) X7) r) q * v10 (ix2 q l)
        else arg9.view.read (Elt Ideal) f9 (ix2 r ⟨128 + l.val, by omega⟩) := by
  unfold trip_k0_t1
  dsimp only
  sl_unfold_words
  split
  · rename_i h
    refine (View.read_writes_cons_unit_of_mem _ _ _ _ _ _ (ix2 ⟨r.val - 512 * k.val, by omega⟩ l) (k0_off3_eq k) ?_).trans ?_
    · intro a; match a with
      | 0 => show r.val = 512 * k.val + (r.val - 512 * k.val); omega
      | 1 => rfl
    refine (pay15_apply _ _ _ _ _ _ _ _ _).trans ?_
    refine congrArg₂ (fun a b : EReal => a + b) (ld_at arg9.view f9 (k0_off3_eq k) _ _ ?_) ?_
    · intro a; match a with
      | 0 => show r.val = 512 * k.val + (r.val - 512 * k.val); omega
      | 1 => rfl
    · refine Finset.sum_congr rfl fun q _ => congrArg₂ (fun K V => dwt v10 v24 v12 v28 K V q * v10 (ix2 q l)) (funext fun l' => ?_) (funext fun l' => (pay6_apply _ _ _).trans (congrFun (congrArg hi64 (funext fun l' => ?_)) l'))
      · refine ld_at arg6.view X6 (k0_off3_eq k) _ _ ?_
        intro a; match a with
        | 0 => show r.val = 512 * k.val + (r.val - 512 * k.val); omega
        | 1 => rfl
      · refine ld_at arg7.view X7 (k0_off1_eq k) _ _ ?_
        intro a; match a with
        | 0 => show r.val = 512 * k.val + (r.val - 512 * k.val); omega
        | 1 => show l'.val = 0 + l'.val; omega
  · rename_i h
    refine (View.read_writes_cons_unit_of_not_mem _ _ _ _ _ _ (k0_off3_eq k) 0 ?_).trans ?_
    · show r.val < 512 * k.val ∨ 512 * k.val + 512 ≤ r.val; omega
    refine (View.read_writes_cons_unit_of_not_mem _ _ _ _ _ _ (k0_off2_eq k) 1 ?_).trans ?_
    · show 128 + l.val < 0 ∨ 0 + 128 ≤ 128 + l.val; omega
    rfl

/-- A key's row number inside its chunk. -/
def row (k : Fin k0_t1_loop.trips) (j : Fin 512) : Fin 8192 := ⟨512 * k.val + j.val, by have := k.isLt; have := k0_t1_abs; omega⟩

theorem trip11a (l : Fin 128) (q : Fin 2048) :
    arg11.view.read (Elt Ideal) (arg11.view.writes (Elt Ideal) f11 ((trip_k0_t1 (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 k).2.2.1 f9 f10 f11)) (ix3 0 l q)
      = arg11.view.read (Elt Ideal) f11 (ix3 0 l q) + ∑ j : Fin 512, kr0 (arg6.view.read (Elt Ideal) X6) (row k j) l
          * dwt v8 v22 v12 v26 (kr0 (arg6.view.read (Elt Ideal) X6) (row k j)) (vr0 (arg7.view.read (Elt Ideal) X7) (row k j)) q := by
  unfold trip_k0_t1
  dsimp only
  sl_unfold_words
  refine (View.read_writes_cons_unit_of_not_mem _ _ _ _ _ _ rfl 0 ?_).trans ?_
  · show 0 < 1 ∨ 1 + 1 ≤ 0; omega
  refine (View.read_writes_cons_unit_of_mem _ _ _ _ _ _ (ix3 0 l q) rfl ?_).trans ?_
  · intro a; match a with
    | 0 => rfl
    | 1 => show l.val = 0 + l.val; omega
    | 2 => show q.val = 0 + q.val; omega
  refine (pay11_apply _ _ _ _ _).trans ?_
  refine congrArg₂ (fun a b : EReal => a + b) (ld_at arg11.view f11 rfl _ _ ?_) (Finset.sum_congr rfl fun j _ => congrArg₂ (fun a b : EReal => a * b) (ld_at arg6.view X6 (k0_off2_eq k) _ _ ?_) ((pay8_apply _ _ _ _ _ _ _ _).trans
    (congrArg₂ (fun K V => dwt v8 v22 v12 v26 K V q) (funext fun l' => ?_) (congrArg lo64 (funext fun l' => ?_)))))
  · intro a; match a with
    | 0 => rfl
    | 1 => show l.val = 0 + l.val; omega
    | 2 => show q.val = 0 + q.val; omega
  · intro a; match a with
    | 0 => rfl
    | 1 => show l.val = 0 + l.val; omega
  · refine ld_at arg6.view X6 (k0_off2_eq k) _ _ ?_
    intro a; match a with
    | 0 => rfl
    | 1 => show l'.val = 0 + l'.val; omega
  · refine ld_at arg7.view X7 (k0_off1_eq k) _ _ ?_
    intro a; match a with
    | 0 => rfl
    | 1 => show l'.val = 0 + l'.val; omega

theorem trip11b (l : Fin 128) (q : Fin 2048) :
    arg11.view.read (Elt Ideal) (arg11.view.writes (Elt Ideal) f11 ((trip_k0_t1 (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 k).2.2.1 f9 f10 f11)) (ix3 1 l q)
      = arg11.view.read (Elt Ideal) f11 (ix3 1 l q) + ∑ j : Fin 512, kr1 (arg6.view.read (Elt Ideal) X6) (row k j) l
          * dwt v10 v24 v12 v28 (kr1 (arg6.view.read (Elt Ideal) X6) (row k j)) (vr1 (arg7.view.read (Elt Ideal) X7) (row k j)) q := by
  unfold trip_k0_t1
  dsimp only
  sl_unfold_words
  refine (View.read_writes_cons_unit_of_mem _ _ _ _ _ _ (ix3 0 l q) rfl ?_).trans ?_
  · intro a; match a with
    | 0 => rfl
    | 1 => show l.val = 0 + l.val; omega
    | 2 => show q.val = 0 + q.val; omega
  refine (pay1_apply _ _ _ _ _).trans ?_
  refine congrArg₂ (fun a b : EReal => a + b) (ld_at arg11.view f11 rfl _ _ ?_) (Finset.sum_congr rfl fun j _ => congrArg₂ (fun a b : EReal => a * b) (ld_at arg6.view X6 (k0_off3_eq k) _ _ ?_) ((pay13_apply _ _ _ _ _ _ _ _).trans
    (congrArg₂ (fun K V => dwt v10 v24 v12 v28 K V q) (funext fun l' => ?_) (funext fun l' => (pay6_apply _ _ _).trans (congrFun (congrArg hi64 (funext fun l' => ?_)) l')))))
  · intro a; match a with
    | 0 => rfl
    | 1 => show l.val = 0 + l.val; omega
    | 2 => show q.val = 0 + q.val; omega
  · intro a; match a with
    | 0 => rfl
    | 1 => rfl
  · refine ld_at arg6.view X6 (k0_off3_eq k) _ _ ?_
    intro a; match a with
    | 0 => rfl
    | 1 => rfl
  · refine ld_at arg7.view X7 (k0_off1_eq k) _ _ ?_
    intro a; match a with
    | 0 => rfl
    | 1 => show l'.val = 0 + l'.val; omega

end Cert.KernelIdeal.Value

end
-- ==== Proof.Loop.lean ====
/- What the loop over the sixteen chunks leaves in the three running buffers, entry by entry. -/
module

public import proofs.«01_k».proof.Proof.Trip

@[expose] public section

set_option maxRecDepth 16384

noncomputable section

namespace Cert.KernelIdeal.Value

open Cert.KernelIdeal Cert.KernelIdeal.Gen
open Idealize.ShloMosaic Idealize.ShloMosaic.TcCoe Idealize.SL.Sem

/-- A sum over the rows before chunk `k + 1`: those before chunk `k`, and chunk `k`'s. -/
theorem sum_rows_succ (g : Fin 8192 → EReal) (k : Fin k0_t1_loop.trips) :
    ∑ r ∈ Finset.univ.filter (fun r : Fin 8192 => r.val < 512 * (k.val + 1)), g r
      = (∑ r ∈ Finset.univ.filter (fun r : Fin 8192 => r.val < 512 * k.val), g r) + ∑ j : Fin 512, g (row k j) := by
  have hinj : Function.Injective (row k) := fun a b h => Fin.ext (by have := congrArg Fin.val h; simp only [row] at this; omega)
  rw [← Finset.sum_image (s := Finset.univ) (g := row k) (f := g) (fun a _ b _ h => hinj h), ← Finset.sum_union]
  · refine Finset.sum_congr (Finset.ext fun r => ?_) fun _ _ => rfl
    simp only [Finset.mem_filter, Finset.mem_univ, true_and, Finset.mem_union, Finset.mem_image]
    constructor
    · intro h
      by_cases h' : r.val < 512 * k.val
      · exact Or.inl h'
      · exact Or.inr ⟨⟨r.val - 512 * k.val, by omega⟩, Fin.ext (by simp only [row]; omega)⟩
    · rintro (h | ⟨j, rfl⟩)
      · omega
      · simp only [row]; omega
  · refine Finset.disjoint_left.mpr fun r h h' => ?_
    simp only [Finset.mem_filter, Finset.mem_univ, true_and, Finset.mem_image] at h h'
    obtain ⟨j, rfl⟩ := h'
    simp only [row] at h
    omega

theorem trips_eq : k0_t1_loop.trips = 16 := by decide +kernel

/-- A sum over the rows before chunk sixteen is the sum over all rows. -/
theorem sum_rows_all (g : Fin 8192 → EReal) :
    ∑ r ∈ Finset.univ.filter (fun r : Fin 8192 => r.val < 512 * k0_t1_loop.trips), g r = ∑ r : Fin 8192, g r := by
  refine Finset.sum_congr (Finset.filter_true_of_mem fun r _ => ?_) fun _ _ => rfl
  rw [trips_eq]; exact r.isLt

variable (𝒱 : Variants) (c : Dev nD) (bd : Option 𝒱.V) (i : grid0.Coords) (arg2 : Memref sig .tc .vmem S2048x256 .bf16) (harg2 : arg2.IsWhole) (arg3 : Memref sig .tc .vmem S2048x128 .bf16) (harg3 : arg3.IsWhole) (arg4 : Memref sig .tc .vmem S1x2x2048 .f32) (harg4 : arg4.IsWhole) (arg5 : Memref sig .tc .vmem S1x2x2048 .f32) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S2048x256 .f32) (harg8 : arg8.IsWhole) (arg9 : Memref sig .tc .vmem S8192x256 .f32) (harg9 : arg9.IsWhole) (arg10 : Memref sig .tc .vmem S8192x128 .f32) (harg10 : arg10.IsWhole) (arg11 : Memref sig .tc .vmem S2x128x2048 .f32) (harg11 : arg11.IsWhole)
  (v8 v10 v12 v17 v20 : FVec Ideal S2048x128 .bf16) (v22 v24 v26 v28 : FVec Ideal S1x2048 .f32) (X6 : BufTy.Contents (Elt Ideal) arg6.view.ty) (X7 : BufTy.Contents (Elt Ideal) arg7.view.ty) (f9 : BufTy.Contents (Elt Ideal) arg9.view.ty) (f10 : BufTy.Contents (Elt Ideal) arg10.view.ty) (f11 : BufTy.Contents (Elt Ideal) arg11.view.ty)

theorem loop10 (r : Fin 8192) (l : Fin 128) : ∀ n, n ≤ k0_t1_loop.trips →
    arg10.view.read (Elt Ideal) (arg10.view.writes (Elt Ideal) f10 (pb_k0_t1 (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 f9 f10 f11 n).2.1) (ix2 r l)
      = if r.val < 512 * n then
          arg10.view.read (Elt Ideal) f10 (ix2 r l) + (∑ q : Fin 2048, wt v8 v22 (kr0 (arg6.view.read (Elt Ideal) X6) r) q * v17 (ix2 q l))
            + ∑ q : Fin 2048, wt v10 v24 (kr1 (arg6.view.read (Elt Ideal) X6) r) q * v20 (ix2 q l)
        else arg10.view.read (Elt Ideal) f10 (ix2 r l) := by
  intro n
  induction n with
  | zero => intro _; rw [if_neg (by omega)]; rfl
  | succ n ih =>
    intro hn
    have ih := ih (by omega)
    have e := pb_k0_t1_succ (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 f9 f10 f11 ⟨n, hn⟩
    dsimp only at e
    rw [e, View.writes_append]
    refine (trip10 𝒱 c bd i arg2 harg2 arg3 harg3 arg4 harg4 arg5 harg5 arg6 harg6 arg7 harg7 arg8 harg8 arg9 harg9 arg10 harg10 arg11 harg11 v8 v10 v12 v17 v20 v22 v24 v26 v28 X6 X7 ⟨n, hn⟩ _ _ _ r l).trans ?_
    rw [ih]
    dsimp only
    split_ifs <;> first | rfl | omega

theorem loop9a (r : Fin 8192) (l : Fin 128) : ∀ n, n ≤ k0_t1_loop.trips →
    arg9.view.read (Elt Ideal) (arg9.view.writes (Elt Ideal) f9 (pb_k0_t1 (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 f9 f10 f11 n).1) (ix2 r ⟨l.val, by omega⟩)
      = if r.val < 512 * n then
          arg9.view.read (Elt Ideal) f9 (ix2 r ⟨l.val, by omega⟩) + ∑ q : Fin 2048, dwt v8 v22 v12 v26 (kr0 (arg6.view.read (Elt Ideal) X6) r) (vr0 (arg7.view.read (Elt Ideal) X7) r) q * v8 (ix2 q l)
        else arg9.view.read (Elt Ideal) f9 (ix2 r ⟨l.val, by omega⟩) := by
  intro n
  induction n with
  | zero => intro _; rw [if_neg (by omega)]; rfl
  | succ n ih =>
    intro hn
    have ih := ih (by omega)
    have e := pb_k0_t1_succ (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 f9 f10 f11 ⟨n, hn⟩
    dsimp only at e
    rw [e, View.writes_append]
    refine (trip9a 𝒱 c bd i arg2 harg2 arg3 harg3 arg4 harg4 arg5 harg5 arg6 harg6 arg7 harg7 arg8 harg8 arg9 harg9 arg10 harg10 arg11 harg11 v8 v10 v12 v17 v20 v22 v24 v26 v28 X6 X7 ⟨n, hn⟩ _ _ _ r l).trans ?_
    rw [ih]
    dsimp only
    split_ifs <;> first | rfl | omega

theorem loop9b (r : Fin 8192) (l : Fin 128) : ∀ n, n ≤ k0_t1_loop.trips →
    arg9.view.read (Elt Ideal) (arg9.view.writes (Elt Ideal) f9 (pb_k0_t1 (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 f9 f10 f11 n).1) (ix2 r ⟨128 + l.val, by omega⟩)
      = if r.val < 512 * n then
          arg9.view.read (Elt Ideal) f9 (ix2 r ⟨128 + l.val, by omega⟩) + ∑ q : Fin 2048, dwt v10 v24 v12 v28 (kr1 (arg6.view.read (Elt Ideal) X6) r) (vr1 (arg7.view.read (Elt Ideal) X7) r) q * v10 (ix2 q l)
        else arg9.view.read (Elt Ideal) f9 (ix2 r ⟨128 + l.val, by omega⟩) := by
  intro n
  induction n with
  | zero => intro _; rw [if_neg (by omega)]; rfl
  | succ n ih =>
    intro hn
    have ih := ih (by omega)
    have e := pb_k0_t1_succ (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 f9 f10 f11 ⟨n, hn⟩
    dsimp only at e
    rw [e, View.writes_append]
    refine (trip9b 𝒱 c bd i arg2 harg2 arg3 harg3 arg4 harg4 arg5 harg5 arg6 harg6 arg7 harg7 arg8 harg8 arg9 harg9 arg10 harg10 arg11 harg11 v8 v10 v12 v17 v20 v22 v24 v26 v28 X6 X7 ⟨n, hn⟩ _ _ _ r l).trans ?_
    rw [ih]
    dsimp only
    split_ifs <;> first | rfl | omega

theorem loop11a (l : Fin 128) (q : Fin 2048) : ∀ n, n ≤ k0_t1_loop.trips →
    arg11.view.read (Elt Ideal) (arg11.view.writes (Elt Ideal) f11 (pb_k0_t1 (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 f9 f10 f11 n).2.2) (ix3 0 l q)
      = arg11.view.read (Elt Ideal) f11 (ix3 0 l q) + ∑ r ∈ Finset.univ.filter (fun r : Fin 8192 => r.val < 512 * n),
          kr0 (arg6.view.read (Elt Ideal) X6) r l * dwt v8 v22 v12 v26 (kr0 (arg6.view.read (Elt Ideal) X6) r) (vr0 (arg7.view.read (Elt Ideal) X7) r) q := by
  intro n
  induction n with
  | zero => intro _; rw [Finset.filter_false_of_mem fun r _ => by omega, Finset.sum_empty, add_zero]; rfl
  | succ n ih =>
    intro hn
    have ih := ih (by omega)
    have e := pb_k0_t1_succ (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 f9 f10 f11 ⟨n, hn⟩
    dsimp only at e
    rw [e, View.writes_append]
    refine (trip11a 𝒱 c bd i arg2 harg2 arg3 harg3 arg4 harg4 arg5 harg5 arg6 harg6 arg7 harg7 arg8 harg8 arg9 harg9 arg10 harg10 arg11 harg11 v8 v10 v12 v17 v20 v22 v24 v26 v28 X6 X7 ⟨n, hn⟩ _ _ _ l q).trans ?_
    rw [ih, add_assoc]
    exact congrArg _ (sum_rows_succ _ ⟨n, hn⟩).symm

theorem loop11b (l : Fin 128) (q : Fin 2048) : ∀ n, n ≤ k0_t1_loop.trips →
    arg11.view.read (Elt Ideal) (arg11.view.writes (Elt Ideal) f11 (pb_k0_t1 (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 f9 f10 f11 n).2.2) (ix3 1 l q)
      = arg11.view.read (Elt Ideal) f11 (ix3 1 l q) + ∑ r ∈ Finset.univ.filter (fun r : Fin 8192 => r.val < 512 * n),
          kr1 (arg6.view.read (Elt Ideal) X6) r l * dwt v10 v24 v12 v28 (kr1 (arg6.view.read (Elt Ideal) X6) r) (vr1 (arg7.view.read (Elt Ideal) X7) r) q := by
  intro n
  induction n with
  | zero => intro _; rw [Finset.filter_false_of_mem fun r _ => by omega, Finset.sum_empty, add_zero]; rfl
  | succ n ih =>
    intro hn
    have ih := ih (by omega)
    have e := pb_k0_t1_succ (F := Ideal) 𝒱 c bd i arg2 harg2 arg3 harg3 arg4 harg4 arg5 harg5 arg6 harg6 arg7 harg7 arg8 harg8 arg9 harg9 arg10 harg10 arg11 harg11 v8 v10 v12 v17 v20 v22 v24 v26 v28 X6 X7 f9 f10 f11 ⟨n, hn⟩
    dsimp only at e
    rw [e, View.writes_append]
    refine (trip11b 𝒱 c bd i arg2 harg2 arg3 harg3 arg4 harg4 arg5 harg5 arg6 harg6 arg7 harg7 arg8 harg8 arg9 harg9 arg10 harg10 arg11 harg11 v8 v10 v12 v17 v20 v22 v24 v26 v28 X6 X7 ⟨n, hn⟩ _ _ _ l q).trans ?_
    rw [ih, add_assoc]
    exact congrArg _ (sum_rows_succ _ ⟨n, hn⟩).symm

end Cert.KernelIdeal.Value

end
-- ==== Proof.Outs.lean ====
/- What the body leaves in its three outputs at one grid point, entry by entry. -/
module

public import proofs.«01_k».proof.Proof.Loop
public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.SL.Sem

/-- The first head's lanes of a block of queries. -/
def qh0 (x : Vec Ideal S2048x256 .bf16) : FVec Ideal S2048x128 .bf16 := fun y => x (ix2 (y 0) ⟨(y 1).val, Nat.lt_trans (y 1).isLt (by decide)⟩)
/-- The second head's lanes of a block of queries. -/
def qh1 (x : Vec Ideal S2048x256 .bf16) : FVec Ideal S2048x128 .bf16 := fun y => x (ix2 (y 0) ⟨128 + (y 1).val, Nat.add_lt_add_left (y 1).isLt 128⟩)
/-- The first head's lanes of a block of output gradients, the others zero. -/
def doL (x : Vec Ideal S2048x128 .bf16) : FVec Ideal S2048x128 .bf16 := fun y => lo64 (fun l => x (ix2 (y 0) l)) (y 1)
/-- The second head's lanes of a block of output gradients, the others zero. -/
def doH (x : Vec Ideal S2048x128 .bf16) : FVec Ideal S2048x128 .bf16 := fun y => hi64 (fun l => x (ix2 (y 0) l)) (y 1)
/-- The first head's row of a block of row values. -/
def row0 (x : Vec Ideal S1x2x2048 .f32) : FVec Ideal S1x2048 .f32 := fun y => x (ix3 0 0 (y 1))
/-- The second head's row of a block of row values. -/
def row1 (x : Vec Ideal S1x2x2048 .f32) : FVec Ideal S1x2048 .f32 := fun y => x (ix3 0 1 (y 1))

variable (c : Dev nD) (i : grid0.Coords) (arg2 : Memref sig .tc .vmem S2048x256 .bf16) (harg2 : arg2.IsWhole) (arg3 : Memref sig .tc .vmem S2048x128 .bf16) (harg3 : arg3.IsWhole) (arg4 : Memref sig .tc .vmem S1x2x2048 .f32) (harg4 : arg4.IsWhole) (arg5 : Memref sig .tc .vmem S1x2x2048 .f32) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S2048x256 .f32) (harg8 : arg8.IsWhole) (arg9 : Memref sig .tc .vmem S8192x256 .f32) (harg9 : arg9.IsWhole) (arg10 : Memref sig .tc .vmem S8192x128 .f32) (harg10 : arg10.IsWhole) (arg11 : Memref sig .tc .vmem S2x128x2048 .f32) (harg11 : arg11.IsWhole)
  (x0 : Vec Ideal S2048x256 .bf16) (x1 : Vec Ideal S2048x128 .bf16) (x2 : Vec Ideal S1x2x2048 .f32) (x3 : Vec Ideal S1x2x2048 .f32) (x4 : Vec Ideal S8192x256 .bf16) (x5 : Vec Ideal S8192x128 .bf16) (xo7 : Vec Ideal S8192x256 .f32) (xo8 : Vec Ideal S8192x128 .f32)

theorem eq8 : k0_pay20 (F := Ideal) (arg2.view.readAt (Elt Ideal) (Rect.unit (s := S2048x256) ![0, 0] S2048x128.size inb_S2048x256_S2048x128_0_0).toLoadRect (harg2.unread x0)) = qh0 x0 := by
  funext y
  obtain ⟨a, b, rfl⟩ : ∃ (a : Fin 2048) (b : Fin 128), y = ix2 a b := ⟨_, _, eq_ix2 y⟩
  refine (pay20_apply _ a b).trans ((ld_at arg2.view _ rfl _ (ix2 a ⟨(b : Fin 128).val, by have := (b : Fin 128).isLt; omega⟩) ?_).trans (congrFun (harg2.read_unread x0) _))
  intro j; match j with
  | 0 => show (a : Fin 2048).val = 0 + (a : Fin 2048).val; omega
  | 1 => show (b : Fin 128).val = 0 + (b : Fin 128).val; omega

theorem eq10 : k0_pay21 (F := Ideal) (arg2.view.readAt (Elt Ideal) (Rect.unit (s := S2048x256) ![0, 128] S2048x128.size inb_S2048x256_S2048x128_0_128).toLoadRect (harg2.unread x0)) = qh1 x0 := by
  funext y
  obtain ⟨a, b, rfl⟩ : ∃ (a : Fin 2048) (b : Fin 128), y = ix2 a b := ⟨_, _, eq_ix2 y⟩
  refine (pay21_apply _ a b).trans ((ld_at arg2.view _ rfl _ (ix2 a ⟨128 + (b : Fin 128).val, by have := (b : Fin 128).isLt; omega⟩) ?_).trans (congrFun (harg2.read_unread x0) _))
  intro j; match j with
  | 0 => show (a : Fin 2048).val = 0 + (a : Fin 2048).val; omega
  | 1 => rfl

theorem eq12 : k0_pay22 (F := Ideal) (arg3.view.readAt (Elt Ideal) (Rect.unit (s := S2048x128) ![0, 0] S2048x128.size inb_S2048x128_S2048x128_0_0).toLoadRect (harg3.unread x1)) = x1 := by
  funext y
  obtain ⟨a, b, rfl⟩ : ∃ (a : Fin 2048) (b : Fin 128), y = ix2 a b := ⟨_, _, eq_ix2 y⟩
  refine (pay22_apply _ a b).trans ((ld_at arg3.view _ rfl _ (ix2 a b) ?_).trans (congrFun (harg3.read_unread x1) _))
  intro j; match j with
  | 0 => show (a : Fin 2048).val = 0 + (a : Fin 2048).val; omega
  | 1 => show (b : Fin 128).val = 0 + (b : Fin 128).val; omega

theorem eq17 : k0_pay24 (F := Ideal) (arg3.view.readAt (Elt Ideal) (Rect.unit (s := S2048x128) ![0, 0] S2048x128.size inb_S2048x128_S2048x128_0_0).toLoadRect (harg3.unread x1)) = doL x1 := by
  funext y
  obtain ⟨a, b, rfl⟩ : ∃ (a : Fin 2048) (b : Fin 128), y = ix2 a b := ⟨_, _, eq_ix2 y⟩
  refine (pay24_apply _ a b).trans ?_
  refine congrFun (congrArg lo64 (funext fun l => ?_)) b
  refine (ld_at arg3.view _ rfl _ (ix2 a l) ?_).trans (congrFun (harg3.read_unread x1) _)
  intro j; match j with
  | 0 => show (a : Fin 2048).val = 0 + (a : Fin 2048).val; omega
  | 1 => show (l : Fin 128).val = 0 + (l : Fin 128).val; omega

theorem eq20 : k0_pay25 (F := Ideal) (arg3.view.readAt (Elt Ideal) (Rect.unit (s := S2048x128) ![0, 0] S2048x128.size inb_S2048x128_S2048x128_0_0).toLoadRect (harg3.unread x1)) = doH x1 := by
  funext y
  obtain ⟨a, b, rfl⟩ : ∃ (a : Fin 2048) (b : Fin 128), y = ix2 a b := ⟨_, _, eq_ix2 y⟩
  refine (pay25_apply _ a b).trans ?_
  refine congrFun (congrArg hi64 (funext fun l => ?_)) b
  refine (ld_at arg3.view _ rfl _ (ix2 a l) ?_).trans (congrFun (harg3.read_unread x1) _)
  intro j; match j with
  | 0 => show (a : Fin 2048).val = 0 + (a : Fin 2048).val; omega
  | 1 => show (l : Fin 128).val = 0 + (l : Fin 128).val; omega

theorem eq22 : k0_pay26 (F := Ideal) (arg4.view.readAt (Elt Ideal) (Rect.unit (s := S1x2x2048) ![0, 0, 0] S1x1x2048.size inb_S1x2x2048_S1x1x2048_0_0_0).toLoadRect (harg4.unread x2)) = row0 x2 := by
  funext y
  obtain ⟨b, rfl⟩ : ∃ b : Fin 2048, y = ix2 0 b := ⟨y 1, (eq_ix2 (n0 := 1) y).trans (congrArg (fun z => ix2 z (y 1)) (Subsingleton.elim (α := Fin 1) _ _))⟩
  refine (pay26_apply _ b).trans ((ld_at arg4.view _ rfl _ (ix3 0 0 b) ?_).trans (congrFun (harg4.read_unread x2) _))
  intro j; match j with
  | 0 => rfl
  | 1 => rfl
  | 2 => show (b : Fin 2048).val = 0 + (b : Fin 2048).val; omega

theorem eq24 : k0_pay27 (F := Ideal) (arg4.view.readAt (Elt Ideal) (Rect.unit (s := S1x2x2048) ![0, 1, 0] S1x1x2048.size inb_S1x2x2048_S1x1x2048_0_1_0).toLoadRect (harg4.unread x2)) = row1 x2 := by
  funext y
  obtain ⟨b, rfl⟩ : ∃ b : Fin 2048, y = ix2 0 b := ⟨y 1, (eq_ix2 (n0 := 1) y).trans (congrArg (fun z => ix2 z (y 1)) (Subsingleton.elim (α := Fin 1) _ _))⟩
  refine (pay27_apply _ b).trans ((ld_at arg4.view _ rfl _ (ix3 0 1 b) ?_).trans (congrFun (harg4.read_unread x2) _))
  intro j; match j with
  | 0 => rfl
  | 1 => rfl
  | 2 => show (b : Fin 2048).val = 0 + (b : Fin 2048).val; omega

theorem eq26 : k0_pay28 (F := Ideal) (arg5.view.readAt (Elt Ideal) (Rect.unit (s := S1x2x2048) ![0, 0, 0] S1x1x2048.size inb_S1x2x2048_S1x1x2048_0_0_0).toLoadRect (harg5.unread x3)) = row0 x3 := by
  funext y
  obtain ⟨b, rfl⟩ : ∃ b : Fin 2048, y = ix2 0 b := ⟨y 1, (eq_ix2 (n0 := 1) y).trans (congrArg (fun z => ix2 z (y 1)) (Subsingleton.elim (α := Fin 1) _ _))⟩
  refine (pay28_apply _ b).trans ((ld_at arg5.view _ rfl _ (ix3 0 0 b) ?_).trans (congrFun (harg5.read_unread x3) _))
  intro j; match j with
  | 0 => rfl
  | 1 => rfl
  | 2 => show (b : Fin 2048).val = 0 + (b : Fin 2048).val; omega

theorem eq28 : k0_pay29 (F := Ideal) (arg5.view.readAt (Elt Ideal) (Rect.unit (s := S1x2x2048) ![0, 1, 0] S1x1x2048.size inb_S1x2x2048_S1x1x2048_0_1_0).toLoadRect (harg5.unread x3)) = row1 x3 := by
  funext y
  obtain ⟨b, rfl⟩ : ∃ b : Fin 2048, y = ix2 0 b := ⟨y 1, (eq_ix2 (n0 := 1) y).trans (congrArg (fun z => ix2 z (y 1)) (Subsingleton.elim (α := Fin 1) _ _))⟩
  refine (pay29_apply _ b).trans ((ld_at arg5.view _ rfl _ (ix3 0 1 b) ?_).trans (congrFun (harg5.read_unread x3) _))
  intro j; match j with
  | 0 => rfl
  | 1 => rfl
  | 2 => show (b : Fin 2048).val = 0 + (b : Fin 2048).val; omega

/-- A buffer zeroed whole reads zero. -/
theorem zero9 (y : S8192x256.Idx) : arg9.view.read (Elt Ideal) (arg9.view.writes (Elt Ideal) arg9.view.junk
    [⟨Rect.unit (s := S8192x256) ![0, 0] S8192x256.size inb_S8192x256_S8192x256_0_0, k0_pay17 (F := Ideal)⟩]) y = 0 := by
  refine (View.read_writes_cons_unit_of_mem _ _ _ _ _ _ y rfl ?_).trans (pay17_apply y)
  intro j; match j with
  | 0 => show (y 0).val = 0 + (y 0).val; omega
  | 1 => show (y 1).val = 0 + (y 1).val; omega

theorem zero10 (y : S8192x128.Idx) : arg10.view.read (Elt Ideal) (arg10.view.writes (Elt Ideal) arg10.view.junk
    [⟨Rect.unit (s := S8192x128) ![0, 0] S8192x128.size inb_S8192x128_S8192x128_0_0, k0_pay18 (F := Ideal)⟩]) y = 0 := by
  refine (View.read_writes_cons_unit_of_mem _ _ _ _ _ _ y rfl ?_).trans (pay18_apply y)
  intro j; match j with
  | 0 => show (y 0).val = 0 + (y 0).val; omega
  | 1 => show (y 1).val = 0 + (y 1).val; omega

theorem zero11 (h : Fin 2) (l : Fin 128) (q : Fin 2048) : arg11.view.read (Elt Ideal) (arg11.view.writes (Elt Ideal) arg11.view.junk
    [⟨Rect.unit (s := S2x128x2048) ![0, 0, 0] S2x128x2048.size inb_S2x128x2048_S2x128x2048_0_0_0, k0_pay19 (F := Ideal)⟩]) (ix3 h l q) = 0 := by
  refine (View.read_writes_cons_unit_of_mem _ _ _ _ _ _ (ix3 h l q) rfl ?_).trans ?_
  · intro j; match j with
    | 0 => show h.val = 0 + h.val; omega
    | 1 => show l.val = 0 + l.val; omega
    | 2 => show q.val = 0 + q.val; omega
  · pointwise [k0_pay19]

theorem outA7a (hc0 : cond0_0 i) (r : Fin 8192) (l : Fin 128) :
    out0_A_7 c i arg2 harg2 arg3 harg3 arg4 harg4 arg5 harg5 arg6 harg6 arg7 harg7 arg8 harg8 arg9 harg9 arg10 harg10 arg11 harg11 hc0 x0 x1 x2 x3 x4 x5 (ix2 r ⟨l.val, by omega⟩) = 0 + ∑ q : Fin 2048, dwt (qh0 x0) (row0 x2) x1 (row0 x3) (kr0 x4 r) (vr0 x5 r) q * qh0 x0 (ix2 q l) := by
  refine (View.read_writes_apply_eq _ _ arg9.view arg9.view.junk _ _ (cover0_A_7 c i arg2 harg2 arg3 harg3 arg4 harg4 arg5 harg5 arg6 harg6 arg7 harg7 arg8 harg8 arg9 harg9 arg10 harg10 arg11 harg11 hc0 x0 x1 x2 x3 x4 x5 _)).trans ?_
  unfold kernelRun0_A
  dsimp only
  sl_unfold_words
  rw [View.writes_append]
  refine (loop9a _ _ _ _ _ _ _ _ _ _ _ _ _ _ _ _ _ _ _ _ _ _ _ _ _ _ _ _ _ _ _ _ _ _ _ _ _ _ r l _ le_rfl).trans ?_
  rw [if_pos (by rw [trips_eq]; exact r.isLt)]
  rw [eq8, eq12, eq22, eq26, harg6.read_unread, harg7.read_unread, zero9]

theorem outA7b (hc0 : cond0_0 i) (r : Fin 8192) (l : Fin 128) :
    out0_A_7 c i arg2 harg2 arg3 harg3 arg4 harg4 arg5 harg5 arg6 harg6 arg7 harg7 arg8 harg8 arg9 harg9 arg10 harg10 arg11 harg11 hc0 x0 x1 x2 x3 x4 x5 (ix2 r ⟨128 + l.val, by omega⟩) = 0 + ∑ q : Fin 2048, dwt (qh1 x0) (row1 x2) x1 (row1 x3) (kr1 x4 r) (vr1 x5 r) q * qh1 x0 (ix2 q l) := by
  refine (View.read_writes_apply_eq _ _ arg9.view arg9.view.junk _ _ (cover0_A_7 c i arg2 harg2 arg3 harg3 arg4 harg4 arg5 harg5 arg6 harg6 arg7 harg7 arg8 harg8 arg9 harg9 arg10 harg10 arg11 harg11 hc0 x0 x1 x2 x3 x4 x5 _)).trans ?_
  unfold kernelRun0_A
  dsimp only
  sl_unfold_words
  rw [View.writes_append]
  refine (loop9b _ _ _ _ _ _ _ _ _ _ _ _ _ _ _ _ _ _ _ _ _ _ _ _ _ _ _ _ _ _ _ _ _ _ _ _ _ _ r l _ le_rfl).trans ?_
  rw [if_pos (by rw [trips_eq]; exact r.isLt)]
  rw [eq10, eq12, eq24, eq28, harg6.read_unread, harg7.read_unread, zero9]

theorem outA8 (hc0 : cond0_0 i) (r : Fin 8192) (l : Fin 128) :
    out0_A_8 c i arg2 harg2 arg3 harg3 arg4 harg4 arg5 harg5 arg6 harg6 arg7 harg7 arg8 harg8 arg9 harg9 arg10 harg10 arg11 harg11 hc0 x0 x1 x2 x3 x4 x5 (ix2 r l) = 0 + ((∑ q : Fin 2048, wt (qh0 x0) (row0 x2) (kr0 x4 r) q * doL x1 (ix2 q l)) + ∑ q : Fin 2048, wt (qh1 x0) (row1 x2) (kr1 x4 r) q * doH x1 (ix2 q l)) := by
  refine (View.read_writes_apply_eq _ _ arg10.view arg10.view.junk _ _ (cover0_A_8 c i arg2 harg2 arg3 harg3 arg4 harg4 arg5 harg5 arg6 harg6 arg7 harg7 arg8 harg8 arg9 harg9 arg10 harg10 arg11 harg11 hc0 x0 x1 x2 x3 x4 x5 _)).trans ?_
  unfold kernelRun0_A
  dsimp only
  sl_unfold_words
  rw [View.writes_append]
  refine (loop10 _ _ _ _ _ _ _ _ _ _ _ _ _ _ _ _ _ _ _ _ _ _ _ _ _ _ _ _ _ _ _ _ _ _ _ _ _ _ r l _ le_rfl).trans ?_
  rw [if_pos (by rw [trips_eq]; exact r.isLt)]
  rw [eq8, eq10, eq17, eq20, eq22, eq24, harg6.read_unread, zero10, add_assoc]

theorem outA6a (hc0 : cond0_0 i) (q : Fin 2048) (l : Fin 128) :
    out0_A_6 c i arg2 harg2 arg3 harg3 arg4 harg4 arg5 harg5 arg6 harg6 arg7 harg7 arg8 harg8 arg9 harg9 arg10 harg10 arg11 harg11 hc0 x0 x1 x2 x3 x4 x5 (ix2 q ⟨l.val, by omega⟩) = ∑ r : Fin 8192, kr0 x4 r l * dwt (qh0 x0) (row0 x2) x1 (row0 x3) (kr0 x4 r) (vr0 x5 r) q := by
  unfold out0_A_6 kernelRun0_A
  dsimp only
  sl_unfold_words
  refine (View.read_writes_cons_unit_of_not_mem _ _ _ _ _ _ rfl 1 ?_).trans ?_
  · show l.val < 128 ∨ 128 + 128 ≤ l.val; omega
  refine (View.read_writes_cons_unit_of_mem _ _ _ _ _ _ (ix2 q l) rfl ?_).trans ?_
  · intro j; match j with
    | 0 => show q.val = 0 + q.val; omega
    | 1 => show l.val = 0 + l.val; omega
  refine (pay2_apply _ _ _).trans ((ld_at arg11.view _ rfl _ (ix3 0 l q) ?_).trans ?_)
  · intro j; match j with
    | 0 => rfl
    | 1 => show l.val = 0 + l.val; omega
    | 2 => show q.val = 0 + q.val; omega
  rw [View.writes_append]
  refine (loop11a _ _ _ _ _ _ _ _ _ _ _ _ _ _ _ _ _ _ _ _ _ _ _ _ _ _ _ _ _ _ _ _ _ _ _ _ _ _ l q _ le_rfl).trans ?_
  rw [sum_rows_all]
  rw [eq8, eq12, eq22, eq26, harg6.read_unread, harg7.read_unread, zero11, zero_add]

theorem outA6b (hc0 : cond0_0 i) (q : Fin 2048) (l : Fin 128) :
    out0_A_6 c i arg2 harg2 arg3 harg3 arg4 harg4 arg5 harg5 arg6 harg6 arg7 harg7 arg8 harg8 arg9 harg9 arg10 harg10 arg11 harg11 hc0 x0 x1 x2 x3 x4 x5 (ix2 q ⟨128 + l.val, by omega⟩) = ∑ r : Fin 8192, kr1 x4 r l * dwt (qh1 x0) (row1 x2) x1 (row1 x3) (kr1 x4 r) (vr1 x5 r) q := by
  unfold out0_A_6 kernelRun0_A
  dsimp only
  sl_unfold_words
  refine (View.read_writes_cons_unit_of_mem _ _ _ _ _ _ (ix2 q l) rfl ?_).trans ?_
  · intro j; match j with
    | 0 => show q.val = 0 + q.val; omega
    | 1 => rfl
  refine (pay3_apply _ _ _).trans ((ld_at arg11.view _ rfl _ (ix3 1 l q) ?_).trans ?_)
  · intro j; match j with
    | 0 => rfl
    | 1 => show l.val = 0 + l.val; omega
    | 2 => show q.val = 0 + q.val; omega
  rw [View.writes_append]
  refine (loop11b _ _ _ _ _ _ _ _ _ _ _ _ _ _ _ _ _ _ _ _ _ _ _ _ _ _ _ _ _ _ _ _ _ _ _ _ _ _ l q _ le_rfl).trans ?_
  rw [sum_rows_all]
  rw [eq10, eq12, eq24, eq28, harg6.read_unread, harg7.read_unread, zero11, zero_add]

theorem outB7a (hc0 : ¬ cond0_0 i) (r : Fin 8192) (l : Fin 128) :
    out0_B_7 c i arg2 harg2 arg3 harg3 arg4 harg4 arg5 harg5 arg6 harg6 arg7 harg7 arg8 harg8 arg9 harg9 arg10 harg10 arg11 harg11 hc0 x0 x1 x2 x3 x4 x5 xo7 xo8 (ix2 r ⟨l.val, by omega⟩) = xo7 (ix2 r ⟨l.val, by omega⟩) + ∑ q : Fin 2048, dwt (qh0 x0) (row0 x2) x1 (row0 x3) (kr0 x4 r) (vr0 x5 r) q * qh0 x0 (ix2 q l) := by
  refine (View.read_writes_apply_eq _ _ arg9.view (harg9.unread xo7) _ _ (cover0_B_7 c i arg2 harg2 arg3 harg3 arg4 harg4 arg5 harg5 arg6 harg6 arg7 harg7 arg8 harg8 arg9 harg9 arg10 harg10 arg11 harg11 hc0 x0 x1 x2 x3 x4 x5 xo7 xo8 _)).trans ?_
  unfold kernelRun0_B
  dsimp only
  sl_unfold_words
  skip
  refine (loop9a _ _ _ _ _ _ _ _ _ _ _ _ _ _ _ _ _ _ _ _ _ _ _ _ _ _ _ _ _ _ _ _ _ _ _ _ _ _ r l _ le_rfl).trans ?_
  rw [if_pos (by rw [trips_eq]; exact r.isLt)]
  rw [eq8, eq12, eq22, eq26, harg6.read_unread, harg7.read_unread, harg9.read_unread]

theorem outB7b (hc0 : ¬ cond0_0 i) (r : Fin 8192) (l : Fin 128) :
    out0_B_7 c i arg2 harg2 arg3 harg3 arg4 harg4 arg5 harg5 arg6 harg6 arg7 harg7 arg8 harg8 arg9 harg9 arg10 harg10 arg11 harg11 hc0 x0 x1 x2 x3 x4 x5 xo7 xo8 (ix2 r ⟨128 + l.val, by omega⟩) = xo7 (ix2 r ⟨128 + l.val, by omega⟩) + ∑ q : Fin 2048, dwt (qh1 x0) (row1 x2) x1 (row1 x3) (kr1 x4 r) (vr1 x5 r) q * qh1 x0 (ix2 q l) := by
  refine (View.read_writes_apply_eq _ _ arg9.view (harg9.unread xo7) _ _ (cover0_B_7 c i arg2 harg2 arg3 harg3 arg4 harg4 arg5 harg5 arg6 harg6 arg7 harg7 arg8 harg8 arg9 harg9 arg10 harg10 arg11 harg11 hc0 x0 x1 x2 x3 x4 x5 xo7 xo8 _)).trans ?_
  unfold kernelRun0_B
  dsimp only
  sl_unfold_words
  skip
  refine (loop9b _ _ _ _ _ _ _ _ _ _ _ _ _ _ _ _ _ _ _ _ _ _ _ _ _ _ _ _ _ _ _ _ _ _ _ _ _ _ r l _ le_rfl).trans ?_
  rw [if_pos (by rw [trips_eq]; exact r.isLt)]
  rw [eq10, eq12, eq24, eq28, harg6.read_unread, harg7.read_unread, harg9.read_unread]

theorem outB8 (hc0 : ¬ cond0_0 i) (r : Fin 8192) (l : Fin 128) :
    out0_B_8 c i arg2 harg2 arg3 harg3 arg4 harg4 arg5 harg5 arg6 harg6 arg7 harg7 arg8 harg8 arg9 harg9 arg10 harg10 arg11 harg11 hc0 x0 x1 x2 x3 x4 x5 xo7 xo8 (ix2 r l) = xo8 (ix2 r l) + ((∑ q : Fin 2048, wt (qh0 x0) (row0 x2) (kr0 x4 r) q * doL x1 (ix2 q l)) + ∑ q : Fin 2048, wt (qh1 x0) (row1 x2) (kr1 x4 r) q * doH x1 (ix2 q l)) := by
  refine (View.read_writes_apply_eq _ _ arg10.view (harg10.unread xo8) _ _ (cover0_B_8 c i arg2 harg2 arg3 harg3 arg4 harg4 arg5 harg5 arg6 harg6 arg7 harg7 arg8 harg8 arg9 harg9 arg10 harg10 arg11 harg11 hc0 x0 x1 x2 x3 x4 x5 xo7 xo8 _)).trans ?_
  unfold kernelRun0_B
  dsimp only
  sl_unfold_words
  skip
  refine (loop10 _ _ _ _ _ _ _ _ _ _ _ _ _ _ _ _ _ _ _ _ _ _ _ _ _ _ _ _ _ _ _ _ _ _ _ _ _ _ r l _ le_rfl).trans ?_
  rw [if_pos (by rw [trips_eq]; exact r.isLt)]
  rw [eq8, eq10, eq17, eq20, eq22, eq24, harg6.read_unread, harg10.read_unread, add_assoc]

theorem outB6a (hc0 : ¬ cond0_0 i) (q : Fin 2048) (l : Fin 128) :
    out0_B_6 c i arg2 harg2 arg3 harg3 arg4 harg4 arg5 harg5 arg6 harg6 arg7 harg7 arg8 harg8 arg9 harg9 arg10 harg10 arg11 harg11 hc0 x0 x1 x2 x3 x4 x5 xo7 xo8 (ix2 q ⟨l.val, by omega⟩) = ∑ r : Fin 8192, kr0 x4 r l * dwt (qh0 x0) (row0 x2) x1 (row0 x3) (kr0 x4 r) (vr0 x5 r) q := by
  unfold out0_B_6 kernelRun0_B
  dsimp only
  sl_unfold_words
  refine (View.read_writes_cons_unit_of_not_mem _ _ _ _ _ _ rfl 1 ?_).trans ?_
  · show l.val < 128 ∨ 128 + 128 ≤ l.val; omega
  refine (View.read_writes_cons_unit_of_mem _ _ _ _ _ _ (ix2 q l) rfl ?_).trans ?_
  · intro j; match j with
    | 0 => show q.val = 0 + q.val; omega
    | 1 => show l.val = 0 + l.val; omega
  refine (pay2_apply _ _ _).trans ((ld_at arg11.view _ rfl _ (ix3 0 l q) ?_).trans ?_)
  · intro j; match j with
    | 0 => rfl
    | 1 => show l.val = 0 + l.val; omega
    | 2 => show q.val = 0 + q.val; omega
  rw [View.writes_append]
  refine (loop11a _ _ _ _ _ _ _ _ _ _ _ _ _ _ _ _ _ _ _ _ _ _ _ _ _ _ _ _ _ _ _ _ _ _ _ _ _ _ l q _ le_rfl).trans ?_
  rw [sum_rows_all]
  rw [eq8, eq12, eq22, eq26, harg6.read_unread, harg7.read_unread, zero11, zero_add]

theorem outB6b (hc0 : ¬ cond0_0 i) (q : Fin 2048) (l : Fin 128) :
    out0_B_6 c i arg2 harg2 arg3 harg3 arg4 harg4 arg5 harg5 arg6 harg6 arg7 harg7 arg8 harg8 arg9 harg9 arg10 harg10 arg11 harg11 hc0 x0 x1 x2 x3 x4 x5 xo7 xo8 (ix2 q ⟨128 + l.val, by omega⟩) = ∑ r : Fin 8192, kr1 x4 r l * dwt (qh1 x0) (row1 x2) x1 (row1 x3) (kr1 x4 r) (vr1 x5 r) q := by
  unfold out0_B_6 kernelRun0_B
  dsimp only
  sl_unfold_words
  refine (View.read_writes_cons_unit_of_mem _ _ _ _ _ _ (ix2 q l) rfl ?_).trans ?_
  · intro j; match j with
    | 0 => show q.val = 0 + q.val; omega
    | 1 => rfl
  refine (pay3_apply _ _ _).trans ((ld_at arg11.view _ rfl _ (ix3 1 l q) ?_).trans ?_)
  · intro j; match j with
    | 0 => rfl
    | 1 => show l.val = 0 + l.val; omega
    | 2 => show q.val = 0 + q.val; omega
  rw [View.writes_append]
  refine (loop11b _ _ _ _ _ _ _ _ _ _ _ _ _ _ _ _ _ _ _ _ _ _ _ _ _ _ _ _ _ _ _ _ _ _ _ _ _ _ l q _ le_rfl).trans ?_
  rw [sum_rows_all]
  rw [eq10, eq12, eq24, eq28, harg6.read_unread, harg7.read_unread, zero11, zero_add]

end Cert.KernelIdeal.Value

end
-- ==== Proof.Arrays.lean ====
/- The kernel's three result arrays, entry by entry, from its six argument arrays. -/
module

public import proofs.«01_k».proof.Proof.Outs
public import proofs.«01_k».proof.Proof.Gen.KernelIdeal.Value

@[expose] public section

set_option maxRecDepth 16384

noncomputable section

namespace Cert.KernelIdeal.Value

open Cert.KernelIdeal Cert.KernelIdeal.Gen
open Idealize.ShloMosaic Idealize.ShloMosaic.TcCoe Idealize.SL.Sem

/-- Lane `l` of head `H`, of 128. -/
def c128 (H : Fin 8) (l : Fin 128) : Fin 1024 := ⟨128 * H.val + l.val, by omega⟩
/-- Lane `l` of head `H`, of 64. -/
def c64 (H : Fin 8) (l : Fin 64) : Fin 512 := ⟨64 * H.val + l.val, by omega⟩
/-- A head's place among the pairs. -/
def hp (H : Fin 8) : Fin 4 := ⟨H.val / 2, by omega⟩
/-- A head's place inside its pair. -/
def hh (H : Fin 8) : Fin 2 := ⟨H.val % 2, by omega⟩

/-- The weight of key `r` for query `q` under head `H`, from the argument arrays. -/
def wG (Q K : FVec Ideal S8192x1024 .bf16) (LS : FVec Ideal S4x2x8192 .f32) (H : Fin 8) (q r : Fin 8192) : EReal :=
  Ideal.exp2 ((∑ l : Fin 128, K (ix2 r (c128 H l)) * Q (ix2 q (c128 H l))) - LS (ix3 (hp H) (hh H) q))

/-- The weight's gradient, from the argument arrays. -/
def dG (Q K : FVec Ideal S8192x1024 .bf16) (VV DO : FVec Ideal S8192x512 .bf16) (LS DE : FVec Ideal S4x2x8192 .f32) (H : Fin 8) (q r : Fin 8192) : EReal :=
  wG Q K LS H q r * ((∑ l : Fin 64, VV (ix2 r (c64 H l)) * DO (ix2 q (c64 H l))) - DE (ix3 (hp H) (hh H) q))

/-- A sum over a row masked to its lower half. -/
theorem sum_lo (V O : Fin 128 → EReal) : ∑ l : Fin 128, lo64 V l * O l = ∑ l : Fin 64, V ⟨l.val, by omega⟩ * O ⟨l.val, by omega⟩ := by
  rw [Fin.sum_univ_two_halves 64 64 rfl]
  refine (congrArg₂ (fun a b : EReal => a + b) (Finset.sum_congr rfl fun l _ => ?_) (Finset.sum_eq_zero fun l _ => ?_)).trans (add_zero _)
  · rw [lo64, if_pos l.isLt]
  · rw [lo64, if_neg (by show ¬ 64 + l.val < 64; omega), zero_mul]

/-- A sum over a row masked to its upper half. -/
theorem sum_hi (V O : Fin 128 → EReal) : ∑ l : Fin 128, hi64 V l * O l = ∑ l : Fin 64, V ⟨64 + l.val, by omega⟩ * O ⟨64 + l.val, by omega⟩ := by
  rw [Fin.sum_univ_two_halves 64 64 rfl]
  refine (congrArg₂ (fun a b : EReal => a + b) (Finset.sum_eq_zero fun l _ => ?_) (Finset.sum_congr rfl fun l _ => ?_)).trans (zero_add _)
  · rw [hi64, if_neg (by show ¬ 64 ≤ l.val; omega), zero_mul]
  · rw [hi64, if_pos (by show 64 ≤ 64 + l.val; omega)]

variable (m : (ℓ : Loc nD τ sig) → Buf (Elt Ideal) ℓ)

theorem idx : ∀ t : Fin cfg0.N, win0_0.index t = ![t.val % 4, t.val / 4] ∧ win0_1.index t = ![t.val % 4, t.val / 4] ∧ win0_2.index t = ![t.val / 4, 0, t.val % 4]
    ∧ win0_3.index t = ![t.val / 4, 0, t.val % 4] ∧ win0_4.index t = ![0, t.val / 4] ∧ win0_5.index t = ![0, t.val / 4] ∧ win0_6.index t = ![t.val % 4, t.val / 4]
    ∧ win0_7.index t = ![0, t.val / 4] ∧ win0_8.index t = ![0, t.val / 4] :=
  (by decide +kernel : ∀ t : Fin grid0.N, _)

theorem N16 : cfg0.N = 16 := by decide +kernel

theorem blk0 (c : Dev nD) (t : Fin cfg0.N) (q : Fin 2048) (l : Fin 256) :
    iblk m c 0 t (ix2 q l) = V m c main_v29 (ix2 ⟨2048 * (t.val % 4) + q.val, by omega⟩ ⟨256 * (t.val / 4) + l.val, by have := t.isLt; have := N16; omega⟩) := by
  blk_point [iblk, idx t]
theorem blk1 (c : Dev nD) (t : Fin cfg0.N) (q : Fin 2048) (l : Fin 128) :
    iblk m c 1 t (ix2 q l) = V m c main_v32 (ix2 ⟨2048 * (t.val % 4) + q.val, by omega⟩ ⟨128 * (t.val / 4) + l.val, by have := t.isLt; have := N16; omega⟩) := by
  blk_point [iblk, idx t]
theorem blk2 (c : Dev nD) (t : Fin cfg0.N) (h : Fin 2) (q : Fin 2048) :
    iblk m c 2 t (ix3 0 h q) = V m c main_v33 (ix3 ⟨t.val / 4, by have := t.isLt; have := N16; omega⟩ h ⟨2048 * (t.val % 4) + q.val, by omega⟩) := by
  blk_point [iblk, idx t]
theorem blk3 (c : Dev nD) (t : Fin cfg0.N) (h : Fin 2) (q : Fin 2048) :
    iblk m c 3 t (ix3 0 h q) = V m c main_v34 (ix3 ⟨t.val / 4, by have := t.isLt; have := N16; omega⟩ h ⟨2048 * (t.val % 4) + q.val, by omega⟩) := by
  blk_point [iblk, idx t]
theorem blk4 (c : Dev nD) (t : Fin cfg0.N) (r : Fin 8192) (l : Fin 256) :
    iblk m c 4 t (ix2 r l) = V m c main_v30 (ix2 r ⟨256 * (t.val / 4) + l.val, by have := t.isLt; have := N16; omega⟩) := by
  blk_point [iblk, idx t]
theorem blk5 (c : Dev nD) (t : Fin cfg0.N) (r : Fin 8192) (l : Fin 128) :
    iblk m c 5 t (ix2 r l) = V m c main_v31 (ix2 r ⟨128 * (t.val / 4) + l.val, by have := t.isLt; have := N16; omega⟩) := by
  blk_point [iblk, idx t]

/-- The first head of the pair that point `t` works on. -/
def H0 (t : Fin cfg0.N) : Fin 8 := ⟨2 * (t.val / 4), by have := t.isLt; have := N16; omega⟩
/-- The second head of the pair that point `t` works on. -/
def H1 (t : Fin cfg0.N) : Fin 8 := ⟨2 * (t.val / 4) + 1, by have := t.isLt; have := N16; omega⟩
/-- Query `q` of point `t`'s block, among all. -/
def gq (t : Fin cfg0.N) (q : Fin 2048) : Fin 8192 := ⟨2048 * (t.val % 4) + q.val, by omega⟩

theorem q_at0 (c : Dev nD) (t : Fin cfg0.N) (q : Fin 2048) (l : Fin 128) :
    qh0 (iblk m c 0 t) (ix2 q l) = V m c main_v29 (ix2 (gq t q) (c128 (H0 t) l)) := by
  refine (blk0 m c t q ⟨l.val, by omega⟩).trans (congrArg (fun z => V m c main_v29 (ix2 _ z)) (Fin.ext ?_))
  simp only [c128, H0]; omega
theorem k_at0 (c : Dev nD) (t : Fin cfg0.N) (r : Fin 8192) (l : Fin 128) :
    kr0 (iblk m c 4 t) r l = V m c main_v30 (ix2 r (c128 (H0 t) l)) := by
  refine (blk4 m c t r ⟨l.val, by omega⟩).trans (congrArg (fun z => V m c main_v30 (ix2 _ z)) (Fin.ext ?_))
  simp only [c128, H0]; omega
theorem v_at0 (c : Dev nD) (t : Fin cfg0.N) (r : Fin 8192) (l : Fin 64) :
    iblk m c 5 t (ix2 r (⟨l.val, by omega⟩ : Fin 128)) = V m c main_v31 (ix2 r (c64 (H0 t) l)) := by
  refine (blk5 m c t r ⟨l.val, by omega⟩).trans (congrArg (fun z => V m c main_v31 (ix2 _ z)) (Fin.ext ?_))
  simp only [c64, H0]; omega
theorem do_at0 (c : Dev nD) (t : Fin cfg0.N) (q : Fin 2048) (l : Fin 64) :
    iblk m c 1 t (ix2 q (⟨l.val, by omega⟩ : Fin 128)) = V m c main_v32 (ix2 (gq t q) (c64 (H0 t) l)) := by
  refine (blk1 m c t q ⟨l.val, by omega⟩).trans (congrArg (fun z => V m c main_v32 (ix2 _ z)) (Fin.ext ?_))
  simp only [c64, H0]; omega
theorem hp0 (t : Fin cfg0.N) : hp (H0 t) = ⟨t.val / 4, by have := t.isLt; have := N16; omega⟩ := Fin.ext (by simp only [hp, H0]; omega)
theorem hh0 (t : Fin cfg0.N) : hh (H0 t) = 0 := Fin.ext (by simp only [hh, H0]; omega)
theorem w_at0 (c : Dev nD) (t : Fin cfg0.N) (q : Fin 2048) (r : Fin 8192) :
    wt (qh0 (iblk m c 0 t)) (row0 (iblk m c 2 t)) (kr0 (iblk m c 4 t) r) q
      = wG (V m c main_v29) (V m c main_v30) (V m c main_v33) (H0 t) (gq t q) r := by
  unfold wt wG
  refine congrArg₂ (fun a b : EReal => Ideal.exp2 (a - b)) (Finset.sum_congr rfl fun l _ => congrArg₂ (fun a b : EReal => a * b) (k_at0 m c t r l) (q_at0 m c t q l)) ?_
  rw [hp0, hh0]
  exact blk2 m c t 0 q
theorem d_at0 (c : Dev nD) (t : Fin cfg0.N) (q : Fin 2048) (r : Fin 8192) :
    dwt (qh0 (iblk m c 0 t)) (row0 (iblk m c 2 t)) (iblk m c 1 t) (row0 (iblk m c 3 t)) (kr0 (iblk m c 4 t) r) (vr0 (iblk m c 5 t) r) q
      = dG (V m c main_v29) (V m c main_v30) (V m c main_v31) (V m c main_v32) (V m c main_v33) (V m c main_v34) (H0 t) (gq t q) r := by
  unfold dwt dG
  refine congrArg₂ (fun a b : EReal => a * b) (w_at0 m c t q r) (congrArg₂ (fun a b : EReal => a - b) ?_ ?_)
  · refine (sum_lo (fun l => iblk m c 5 t (ix2 r l)) (fun l => iblk m c 1 t (ix2 q l))).trans ?_
    exact Finset.sum_congr rfl fun l _ => congrArg₂ (fun a b : EReal => a * b) (v_at0 m c t r l) (do_at0 m c t q l)
  · rw [hp0, hh0]
    exact blk3 m c t 0 q

theorem q_at1 (c : Dev nD) (t : Fin cfg0.N) (q : Fin 2048) (l : Fin 128) :
    qh1 (iblk m c 0 t) (ix2 q l) = V m c main_v29 (ix2 (gq t q) (c128 (H1 t) l)) := by
  refine (blk0 m c t q ⟨128 + l.val, by omega⟩).trans (congrArg (fun z => V m c main_v29 (ix2 _ z)) (Fin.ext ?_))
  simp only [c128, H1]; omega
theorem k_at1 (c : Dev nD) (t : Fin cfg0.N) (r : Fin 8192) (l : Fin 128) :
    kr1 (iblk m c 4 t) r l = V m c main_v30 (ix2 r (c128 (H1 t) l)) := by
  refine (blk4 m c t r ⟨128 + l.val, by omega⟩).trans (congrArg (fun z => V m c main_v30 (ix2 _ z)) (Fin.ext ?_))
  simp only [c128, H1]; omega
theorem v_at1 (c : Dev nD) (t : Fin cfg0.N) (r : Fin 8192) (l : Fin 64) :
    iblk m c 5 t (ix2 r (⟨64 + l.val, by omega⟩ : Fin 128)) = V m c main_v31 (ix2 r (c64 (H1 t) l)) := by
  refine (blk5 m c t r ⟨64 + l.val, by omega⟩).trans (congrArg (fun z => V m c main_v31 (ix2 _ z)) (Fin.ext ?_))
  simp only [c64, H1]; omega
theorem do_at1 (c : Dev nD) (t : Fin cfg0.N) (q : Fin 2048) (l : Fin 64) :
    iblk m c 1 t (ix2 q (⟨64 + l.val, by omega⟩ : Fin 128)) = V m c main_v32 (ix2 (gq t q) (c64 (H1 t) l)) := by
  refine (blk1 m c t q ⟨64 + l.val, by omega⟩).trans (congrArg (fun z => V m c main_v32 (ix2 _ z)) (Fin.ext ?_))
  simp only [c64, H1]; omega
theorem hp1 (t : Fin cfg0.N) : hp (H1 t) = ⟨t.val / 4, by have := t.isLt; have := N16; omega⟩ := Fin.ext (by simp only [hp, H1]; omega)
theorem hh1 (t : Fin cfg0.N) : hh (H1 t) = 1 := Fin.ext (by simp only [hh, H1]; show _ = 1; omega)
theorem w_at1 (c : Dev nD) (t : Fin cfg0.N) (q : Fin 2048) (r : Fin 8192) :
    wt (qh1 (iblk m c 0 t)) (row1 (iblk m c 2 t)) (kr1 (iblk m c 4 t) r) q
      = wG (V m c main_v29) (V m c main_v30) (V m c main_v33) (H1 t) (gq t q) r := by
  unfold wt wG
  refine congrArg₂ (fun a b : EReal => Ideal.exp2 (a - b)) (Finset.sum_congr rfl fun l _ => congrArg₂ (fun a b : EReal => a * b) (k_at1 m c t r l) (q_at1 m c t q l)) ?_
  rw [hp1, hh1]
  exact blk2 m c t 1 q
theorem d_at1 (c : Dev nD) (t : Fin cfg0.N) (q : Fin 2048) (r : Fin 8192) :
    dwt (qh1 (iblk m c 0 t)) (row1 (iblk m c 2 t)) (iblk m c 1 t) (row1 (iblk m c 3 t)) (kr1 (iblk m c 4 t) r) (vr1 (iblk m c 5 t) r) q
      = dG (V m c main_v29) (V m c main_v30) (V m c main_v31) (V m c main_v32) (V m c main_v33) (V m c main_v34) (H1 t) (gq t q) r := by
  unfold dwt dG
  refine congrArg₂ (fun a b : EReal => a * b) (w_at1 m c t q r) (congrArg₂ (fun a b : EReal => a - b) ?_ ?_)
  · refine (sum_hi (fun l => iblk m c 5 t (ix2 r l)) (fun l => iblk m c 1 t (ix2 q l))).trans ?_
    exact Finset.sum_congr rfl fun l _ => congrArg₂ (fun a b : EReal => a * b) (v_at1 m c t r l) (do_at1 m c t q l)
  · rw [hp1, hh1]
    exact blk3 m c t 1 q

/-- The gradient with respect to the queries, under head `H`. -/
def dqE (Q K : FVec Ideal S8192x1024 .bf16) (VV DO : FVec Ideal S8192x512 .bf16) (LS DE : FVec Ideal S4x2x8192 .f32) (H : Fin 8) (q : Fin 8192) (l : Fin 128) : EReal :=
  ∑ r : Fin 8192, K (ix2 r (c128 H l)) * dG Q K VV DO LS DE H q r
/-- The gradient with respect to the keys, under head `H`. -/
def dkE (Q K : FVec Ideal S8192x1024 .bf16) (VV DO : FVec Ideal S8192x512 .bf16) (LS DE : FVec Ideal S4x2x8192 .f32) (H : Fin 8) (r : Fin 8192) (l : Fin 128) : EReal :=
  ∑ q : Fin 8192, dG Q K VV DO LS DE H q r * Q (ix2 q (c128 H l))
/-- The gradient with respect to the values, under head `H`. -/
def dvE (Q K : FVec Ideal S8192x1024 .bf16) (DO : FVec Ideal S8192x512 .bf16) (LS : FVec Ideal S4x2x8192 .f32) (H : Fin 8) (r : Fin 8192) (l : Fin 64) : EReal :=
  ∑ q : Fin 8192, wG Q K LS H q r * DO (ix2 q (c64 H l))

/-- A head of 128 lanes from a column. -/
def hd128 (x : Fin 1024) : Fin 8 := ⟨x.val / 128, by omega⟩
def ln128 (x : Fin 1024) : Fin 128 := ⟨x.val % 128, by omega⟩
def hd64 (x : Fin 512) : Fin 8 := ⟨x.val / 64, by omega⟩
def ln64 (x : Fin 512) : Fin 64 := ⟨x.val % 64, by omega⟩

theorem outs6a (c : Dev nD) (t : Fin cfg0.N) (q : Fin 2048) (l : Fin 128) :
    (outsAt0 m c t.val t.isLt).1 (ix2 q (⟨l.val, by omega⟩ : Fin 256)) = dqE (V m c main_v29) (V m c main_v30) (V m c main_v31) (V m c main_v32) (V m c main_v33) (V m c main_v34) (H0 t) (gq t q) l := by
  unfold dqE
  by_cases h0 : t.val % 4 = 0
  · rw [outsAt0_A m c t h0]
    dsimp only
    refine (outA6a _ _ _ _ _ _ _ _ _ _ _ _ _ _ _ _ _ _ _ _ _ _ _ _ _ _ _ _ _ q l).trans ?_
    exact Finset.sum_congr rfl fun r _ => congrArg₂ (fun a b : EReal => a * b) (k_at0 m c t r l) (d_at0 m c t q r)
  · rw [outsAt0_B m c t h0]
    dsimp only
    refine (outB6a _ _ _ _ _ _ _ _ _ _ _ _ _ _ _ _ _ _ _ _ _ _ _ _ _ _ _ _ _ _ _ q l).trans ?_
    exact Finset.sum_congr rfl fun r _ => congrArg₂ (fun a b : EReal => a * b) (k_at0 m c t r l) (d_at0 m c t q r)

theorem outs6b (c : Dev nD) (t : Fin cfg0.N) (q : Fin 2048) (l : Fin 128) :
    (outsAt0 m c t.val t.isLt).1 (ix2 q (⟨128 + l.val, by omega⟩ : Fin 256)) = dqE (V m c main_v29) (V m c main_v30) (V m c main_v31) (V m c main_v32) (V m c main_v33) (V m c main_v34) (H1 t) (gq t q) l := by
  unfold dqE
  by_cases h0 : t.val % 4 = 0
  · rw [outsAt0_A m c t h0]
    dsimp only
    refine (outA6b _ _ _ _ _ _ _ _ _ _ _ _ _ _ _ _ _ _ _ _ _ _ _ _ _ _ _ _ _ q l).trans ?_
    exact Finset.sum_congr rfl fun r _ => congrArg₂ (fun a b : EReal => a * b) (k_at1 m c t r l) (d_at1 m c t q r)
  · rw [outsAt0_B m c t h0]
    dsimp only
    refine (outB6b _ _ _ _ _ _ _ _ _ _ _ _ _ _ _ _ _ _ _ _ _ _ _ _ _ _ _ _ _ _ _ q l).trans ?_
    exact Finset.sum_congr rfl fun r _ => congrArg₂ (fun a b : EReal => a * b) (k_at1 m c t r l) (d_at1 m c t q r)

theorem term7a (c : Dev nD) (t : Fin cfg0.N) (r : Fin 8192) (l : Fin 128) :
    ∑ q : Fin 2048, dwt (qh0 (iblk m c 0 t)) (row0 (iblk m c 2 t)) (iblk m c 1 t) (row0 (iblk m c 3 t)) (kr0 (iblk m c 4 t) r) (vr0 (iblk m c 5 t) r) q * qh0 (iblk m c 0 t) (ix2 q l)
      = ∑ q : Fin 2048, dG (V m c main_v29) (V m c main_v30) (V m c main_v31) (V m c main_v32) (V m c main_v33) (V m c main_v34) (H0 t) (gq t q) r * V m c main_v29 (ix2 (gq t q) (c128 (H0 t) l)) :=
  Finset.sum_congr rfl fun q _ => congrArg₂ (fun a b : EReal => a * b) (d_at0 m c t q r) (q_at0 m c t q l)

theorem outs7a (c : Dev nD) (t : Fin cfg0.N) (ht : t.val % 4 = 3) (r : Fin 8192) (l : Fin 128) :
    (outsAt0 m c t.val t.isLt).2.1 (ix2 r (⟨l.val, by omega⟩ : Fin 256)) = dkE (V m c main_v29) (V m c main_v30) (V m c main_v31) (V m c main_v32) (V m c main_v33) (V m c main_v34) (H0 t) r l := by
  have key := Pipeline.eq_sum_fin_of_reset_step_apply_of_flush (M := EReal) (fun n h (i : Fin 8192 × Fin 128) => (outsAt0 m c n h).2.1 ((ix2 i.1 (⟨i.2.val, by omega⟩ : Fin 256)))) 4 (fun _ => 0)
    (fun t i => ∑ q : Fin 2048, dG (V m c main_v29) (V m c main_v30) (V m c main_v31) (V m c main_v32) (V m c main_v33) (V m c main_v34) (H0 t) (gq t q) i.1 * V m c main_v29 (ix2 (gq t q) (c128 (H0 t) i.2)))
    (fun t h0 i => by
      obtain ⟨r, l⟩ := i
      dsimp only
      rw [outsAt0_A m c t h0]
      refine (outA7a _ _ _ _ _ _ _ _ _ _ _ _ _ _ _ _ _ _ _ _ _ _ _ _ _ _ _ _ _ r l).trans ?_
      exact congrArg (fun z : EReal => 0 + z) (term7a m c t r l))
    (fun t h0 i => by
      obtain ⟨r, l⟩ := i
      dsimp only
      rw [outsAt0_B m c t h0]
      refine (outB7a _ _ _ _ _ _ _ _ _ _ _ _ _ _ _ _ _ _ _ _ _ _ _ _ _ _ _ _ _ _ _ r l).trans ?_
      exact congrArg (fun z : EReal => _ + z) (term7a m c t r l))
    t ht (r, l)
  refine key.trans ((zero_add _).trans ?_)
  refine Fin.sum_mul_add_congr fun s k hl => ?_
  have e1 : (4 * (t.val / 4) + s.val) % 4 = s.val := by omega
  have e2 : (4 * (t.val / 4) + s.val) / 4 = t.val / 4 := by omega
  have eh : H0 ⟨4 * (t.val / 4) + s.val, Pipeline.run_point_lt_of_flush t ht s⟩ = H0 t := Fin.ext (by simp only [H0]; omega)
  have eq : gq ⟨4 * (t.val / 4) + s.val, Pipeline.run_point_lt_of_flush t ht s⟩ k = ⟨s.val * 2048 + k.val, hl⟩ := Fin.ext (by simp only [gq]; omega)
  rw [eh, eq]

theorem term8a (c : Dev nD) (t : Fin cfg0.N) (r : Fin 8192) (l : Fin 64) :
    (∑ q : Fin 2048, wt (qh0 (iblk m c 0 t)) (row0 (iblk m c 2 t)) (kr0 (iblk m c 4 t) r) q * doL (iblk m c 1 t) (ix2 q ⟨l.val, by omega⟩))
        + ∑ q : Fin 2048, wt (qh1 (iblk m c 0 t)) (row1 (iblk m c 2 t)) (kr1 (iblk m c 4 t) r) q * doH (iblk m c 1 t) (ix2 q ⟨l.val, by omega⟩)
      = ∑ q : Fin 2048, wG (V m c main_v29) (V m c main_v30) (V m c main_v33) (H0 t) (gq t q) r * V m c main_v32 (ix2 (gq t q) (c64 (H0 t) l)) := by
  refine (congrArg₂ (fun a b : EReal => a + b) (Finset.sum_congr rfl fun q _ => congrArg₂ (fun a b : EReal => a * b) (w_at0 m c t q r) ((if_pos l.isLt).trans (do_at0 m c t q l))) (Finset.sum_eq_zero fun q _ => (congrArg (fun z : EReal => _ * z) (if_neg (by show ¬ 64 ≤ l.val; omega))).trans (mul_zero _))).trans (add_zero _)

theorem outs8a (c : Dev nD) (t : Fin cfg0.N) (ht : t.val % 4 = 3) (r : Fin 8192) (l : Fin 64) :
    (outsAt0 m c t.val t.isLt).2.2 (ix2 r (⟨l.val, by omega⟩ : Fin 128)) = dvE (V m c main_v29) (V m c main_v30) (V m c main_v32) (V m c main_v33) (H0 t) r l := by
  have key := Pipeline.eq_sum_fin_of_reset_step_apply_of_flush (M := EReal) (fun n h (i : Fin 8192 × Fin 64) => (outsAt0 m c n h).2.2 ((ix2 i.1 (⟨i.2.val, by omega⟩ : Fin 128)))) 4 (fun _ => 0)
    (fun t i => ∑ q : Fin 2048, wG (V m c main_v29) (V m c main_v30) (V m c main_v33) (H0 t) (gq t q) i.1 * V m c main_v32 (ix2 (gq t q) (c64 (H0 t) i.2)))
    (fun t h0 i => by
      obtain ⟨r, l⟩ := i
      dsimp only
      rw [outsAt0_A m c t h0]
      refine (outA8 _ _ _ _ _ _ _ _ _ _ _ _ _ _ _ _ _ _ _ _ _ _ _ _ _ _ _ _ _ r ⟨l.val, by omega⟩).trans ?_
      exact congrArg (fun z : EReal => 0 + z) (term8a m c t r l))
    (fun t h0 i => by
      obtain ⟨r, l⟩ := i
      dsimp only
      rw [outsAt0_B m c t h0]
      refine (outB8 _ _ _ _ _ _ _ _ _ _ _ _ _ _ _ _ _ _ _ _ _ _ _ _ _ _ _ _ _ _ _ r ⟨l.val, by omega⟩).trans ?_
      exact congrArg (fun z : EReal => _ + z) (term8a m c t r l))
    t ht (r, l)
  refine key.trans ((zero_add _).trans ?_)
  refine Fin.sum_mul_add_congr fun s k hl => ?_
  have e1 : (4 * (t.val / 4) + s.val) % 4 = s.val := by omega
  have e2 : (4 * (t.val / 4) + s.val) / 4 = t.val / 4 := by omega
  have eh : H0 ⟨4 * (t.val / 4) + s.val, Pipeline.run_point_lt_of_flush t ht s⟩ = H0 t := Fin.ext (by simp only [H0]; omega)
  have eq : gq ⟨4 * (t.val / 4) + s.val, Pipeline.run_point_lt_of_flush t ht s⟩ k = ⟨s.val * 2048 + k.val, hl⟩ := Fin.ext (by simp only [gq]; omega)
  rw [eh, eq]

theorem term7b (c : Dev nD) (t : Fin cfg0.N) (r : Fin 8192) (l : Fin 128) :
    ∑ q : Fin 2048, dwt (qh1 (iblk m c 0 t)) (row1 (iblk m c 2 t)) (iblk m c 1 t) (row1 (iblk m c 3 t)) (kr1 (iblk m c 4 t) r) (vr1 (iblk m c 5 t) r) q * qh1 (iblk m c 0 t) (ix2 q l)
      = ∑ q : Fin 2048, dG (V m c main_v29) (V m c main_v30) (V m c main_v31) (V m c main_v32) (V m c main_v33) (V m c main_v34) (H1 t) (gq t q) r * V m c main_v29 (ix2 (gq t q) (c128 (H1 t) l)) :=
  Finset.sum_congr rfl fun q _ => congrArg₂ (fun a b : EReal => a * b) (d_at1 m c t q r) (q_at1 m c t q l)

theorem outs7b (c : Dev nD) (t : Fin cfg0.N) (ht : t.val % 4 = 3) (r : Fin 8192) (l : Fin 128) :
    (outsAt0 m c t.val t.isLt).2.1 (ix2 r (⟨128 + l.val, by omega⟩ : Fin 256)) = dkE (V m c main_v29) (V m c main_v30) (V m c main_v31) (V m c main_v32) (V m c main_v33) (V m c main_v34) (H1 t) r l := by
  have key := Pipeline.eq_sum_fin_of_reset_step_apply_of_flush (M := EReal) (fun n h (i : Fin 8192 × Fin 128) => (outsAt0 m c n h).2.1 ((ix2 i.1 (⟨128 + i.2.val, by omega⟩ : Fin 256)))) 4 (fun _ => 0)
    (fun t i => ∑ q : Fin 2048, dG (V m c main_v29) (V m c main_v30) (V m c main_v31) (V m c main_v32) (V m c main_v33) (V m c main_v34) (H1 t) (gq t q) i.1 * V m c main_v29 (ix2 (gq t q) (c128 (H1 t) i.2)))
    (fun t h0 i => by
      obtain ⟨r, l⟩ := i
      dsimp only
      rw [outsAt0_A m c t h0]
      refine (outA7b _ _ _ _ _ _ _ _ _ _ _ _ _ _ _ _ _ _ _ _ _ _ _ _ _ _ _ _ _ r l).trans ?_
      exact congrArg (fun z : EReal => 0 + z) (term7b m c t r l))
    (fun t h0 i => by
      obtain ⟨r, l⟩ := i
      dsimp only
      rw [outsAt0_B m c t h0]
      refine (outB7b _ _ _ _ _ _ _ _ _ _ _ _ _ _ _ _ _ _ _ _ _ _ _ _ _ _ _ _ _ _ _ r l).trans ?_
      exact congrArg (fun z : EReal => _ + z) (term7b m c t r l))
    t ht (r, l)
  refine key.trans ((zero_add _).trans ?_)
  refine Fin.sum_mul_add_congr fun s k hl => ?_
  have e1 : (4 * (t.val / 4) + s.val) % 4 = s.val := by omega
  have e2 : (4 * (t.val / 4) + s.val) / 4 = t.val / 4 := by omega
  have eh : H1 ⟨4 * (t.val / 4) + s.val, Pipeline.run_point_lt_of_flush t ht s⟩ = H1 t := Fin.ext (by simp only [H1]; omega)
  have eq : gq ⟨4 * (t.val / 4) + s.val, Pipeline.run_point_lt_of_flush t ht s⟩ k = ⟨s.val * 2048 + k.val, hl⟩ := Fin.ext (by simp only [gq]; omega)
  rw [eh, eq]

theorem term8b (c : Dev nD) (t : Fin cfg0.N) (r : Fin 8192) (l : Fin 64) :
    (∑ q : Fin 2048, wt (qh0 (iblk m c 0 t)) (row0 (iblk m c 2 t)) (kr0 (iblk m c 4 t) r) q * doL (iblk m c 1 t) (ix2 q ⟨64 + l.val, by omega⟩))
        + ∑ q : Fin 2048, wt (qh1 (iblk m c 0 t)) (row1 (iblk m c 2 t)) (kr1 (iblk m c 4 t) r) q * doH (iblk m c 1 t) (ix2 q ⟨64 + l.val, by omega⟩)
      = ∑ q : Fin 2048, wG (V m c main_v29) (V m c main_v30) (V m c main_v33) (H1 t) (gq t q) r * V m c main_v32 (ix2 (gq t q) (c64 (H1 t) l)) := by
  refine (congrArg₂ (fun a b : EReal => a + b) (Finset.sum_eq_zero fun q _ => (congrArg (fun z : EReal => _ * z) (if_neg (by show ¬ 64 + l.val < 64; omega))).trans (mul_zero _)) (Finset.sum_congr rfl fun q _ => congrArg₂ (fun a b : EReal => a * b) (w_at1 m c t q r) ((if_pos (Nat.le_add_right 64 l.val)).trans (do_at1 m c t q l)))).trans (zero_add _)

theorem outs8b (c : Dev nD) (t : Fin cfg0.N) (ht : t.val % 4 = 3) (r : Fin 8192) (l : Fin 64) :
    (outsAt0 m c t.val t.isLt).2.2 (ix2 r (⟨64 + l.val, by omega⟩ : Fin 128)) = dvE (V m c main_v29) (V m c main_v30) (V m c main_v32) (V m c main_v33) (H1 t) r l := by
  have key := Pipeline.eq_sum_fin_of_reset_step_apply_of_flush (M := EReal) (fun n h (i : Fin 8192 × Fin 64) => (outsAt0 m c n h).2.2 ((ix2 i.1 (⟨64 + i.2.val, by omega⟩ : Fin 128)))) 4 (fun _ => 0)
    (fun t i => ∑ q : Fin 2048, wG (V m c main_v29) (V m c main_v30) (V m c main_v33) (H1 t) (gq t q) i.1 * V m c main_v32 (ix2 (gq t q) (c64 (H1 t) i.2)))
    (fun t h0 i => by
      obtain ⟨r, l⟩ := i
      dsimp only
      rw [outsAt0_A m c t h0]
      refine (outA8 _ _ _ _ _ _ _ _ _ _ _ _ _ _ _ _ _ _ _ _ _ _ _ _ _ _ _ _ _ r ⟨64 + l.val, by omega⟩).trans ?_
      exact congrArg (fun z : EReal => 0 + z) (term8b m c t r l))
    (fun t h0 i => by
      obtain ⟨r, l⟩ := i
      dsimp only
      rw [outsAt0_B m c t h0]
      refine (outB8 _ _ _ _ _ _ _ _ _ _ _ _ _ _ _ _ _ _ _ _ _ _ _ _ _ _ _ _ _ _ _ r ⟨64 + l.val, by omega⟩).trans ?_
      exact congrArg (fun z : EReal => _ + z) (term8b m c t r l))
    t ht (r, l)
  refine key.trans ((zero_add _).trans ?_)
  refine Fin.sum_mul_add_congr fun s k hl => ?_
  have e1 : (4 * (t.val / 4) + s.val) % 4 = s.val := by omega
  have e2 : (4 * (t.val / 4) + s.val) / 4 = t.val / 4 := by omega
  have eh : H1 ⟨4 * (t.val / 4) + s.val, Pipeline.run_point_lt_of_flush t ht s⟩ = H1 t := Fin.ext (by simp only [H1]; omega)
  have eq : gq ⟨4 * (t.val / 4) + s.val, Pipeline.run_point_lt_of_flush t ht s⟩ k = ⟨s.val * 2048 + k.val, hl⟩ := Fin.ext (by simp only [gq]; omega)
  rw [eh, eq]

end Cert.KernelIdeal.Value

end
-- ==== Proof.Final.lean ====
/- The kernel's three result arrays, whole. -/
module

public import proofs.«01_k».proof.Proof.Arrays

@[expose] public section
set_option maxRecDepth 16384
noncomputable section
namespace Cert.KernelIdeal.Value
open Cert.KernelIdeal Cert.KernelIdeal.Gen
open Idealize.ShloMosaic Idealize.ShloMosaic.TcCoe Idealize.SL.Sem
open Idealize.ShloMosaic.Pipeline (Dat)
variable (m : (ℓ : Loc nD τ sig) → Buf (Elt Ideal) ℓ) (c : Dev nD)

theorem final6 : (dats m 0 c).arrAt 6 cfg0.N = fun y : S8192x1024.Idx =>
    dqE (V m c main_v29) (V m c main_v30) (V m c main_v31) (V m c main_v32) (V m c main_v33) (V m c main_v34) (hd128 (y 1)) (y 0) (ln128 (y 1)) := by
  refine (dats m 0 c).arrAt_eq_of_covers 6 _ (by decide +kernel) fun t hf y => ?_
  blk_simp
  rw [after0_6]
  obtain ⟨a, b, rfl⟩ : ∃ (a : Fin 2048) (b : Fin 256), y = ix2 a b := ⟨_, _, eq_ix2 y⟩
  have e0 : ((win0_6.blk t).view.emb (ix2 a b) 0).val = 2048 * (t.val % 4) + a.val := by blk_simp [idx t]; simp; omega
  have e1 : ((win0_6.blk t).view.emb (ix2 a b) 1).val = 256 * (t.val / 4) + b.val := by blk_simp [idx t]; simp; omega
  have g0 : (win0_6.blk t).view.emb (ix2 a b) 0 = gq t a := Fin.ext e0
  rw [g0]
  generalize (win0_6.blk t).view.emb (ix2 a b) 1 = z at e1 ⊢
  by_cases hb : b.val < 128
  · have h1 : hd128 z = H0 t := Fin.ext (by show z.val / 128 = 2 * (t.val / 4); omega)
    have h2 : ln128 z = ⟨b.val, hb⟩ := Fin.ext (by show z.val % 128 = b.val; omega)
    rw [h1, h2]
    exact outs6a m c t a ⟨b.val, hb⟩
  · have h1 : hd128 z = H1 t := Fin.ext (by show z.val / 128 = 2 * (t.val / 4) + 1; omega)
    have h2 : ln128 z = ⟨b.val - 128, by omega⟩ := Fin.ext (by show z.val % 128 = b.val - 128; omega)
    have h3 : b = (⟨128 + (b.val - 128), by omega⟩ : Fin 256) := Fin.ext (by show b.val = 128 + (b.val - 128); omega)
    rw [h1, h2]
    refine (congrArg (fun b' : Fin 256 => (outsAt0 m c t.val t.isLt).1 (ix2 a b')) h3).trans ?_
    exact outs6b m c t a ⟨b.val - 128, by omega⟩

theorem final7 : (dats m 0 c).arrAt 7 cfg0.N = fun y : S8192x1024.Idx =>
    dkE (V m c main_v29) (V m c main_v30) (V m c main_v31) (V m c main_v32) (V m c main_v33) (V m c main_v34) (hd128 (y 1)) (y 0) (ln128 (y 1)) := by
  refine (dats m 0 c).arrAt_eq_of_covers 7 _ (by decide +kernel) fun t hf y => ?_
  have ht : t.val % 4 = 3 := (flush0_7 t).1 hf
  blk_simp
  rw [after0_7]
  obtain ⟨a, b, rfl⟩ : ∃ (a : Fin 8192) (b : Fin 256), y = ix2 a b := ⟨_, _, eq_ix2 y⟩
  have e0 : ((win0_7.blk t).view.emb (ix2 a b) 0).val = a.val := by blk_simp [idx t]
  have e1 : ((win0_7.blk t).view.emb (ix2 a b) 1).val = 256 * (t.val / 4) + b.val := by blk_simp [idx t]; simp; omega
  have g0 : (win0_7.blk t).view.emb (ix2 a b) 0 = a := Fin.ext e0
  rw [g0]
  generalize (win0_7.blk t).view.emb (ix2 a b) 1 = z at e1 ⊢
  by_cases hb : b.val < 128
  · have h1 : hd128 z = H0 t := Fin.ext (by show z.val / 128 = 2 * (t.val / 4); omega)
    have h2 : ln128 z = ⟨b.val, hb⟩ := Fin.ext (by show z.val % 128 = b.val; omega)
    rw [h1, h2]
    exact outs7a m c t ht a ⟨b.val, hb⟩
  · have h1 : hd128 z = H1 t := Fin.ext (by show z.val / 128 = 2 * (t.val / 4) + 1; omega)
    have h2 : ln128 z = ⟨b.val - 128, by omega⟩ := Fin.ext (by show z.val % 128 = b.val - 128; omega)
    have h3 : b = (⟨128 + (b.val - 128), by omega⟩ : Fin 256) := Fin.ext (by show b.val = 128 + (b.val - 128); omega)
    rw [h1, h2]
    refine (congrArg (fun b' : Fin 256 => (outsAt0 m c t.val t.isLt).2.1 (ix2 a b')) h3).trans ?_
    exact outs7b m c t ht a ⟨b.val - 128, by omega⟩

theorem final8 : (dats m 0 c).arrAt 8 cfg0.N = fun y : S8192x512.Idx =>
    dvE (V m c main_v29) (V m c main_v30) (V m c main_v32) (V m c main_v33) (hd64 (y 1)) (y 0) (ln64 (y 1)) := by
  refine (dats m 0 c).arrAt_eq_of_covers 8 _ (by decide +kernel) fun t hf y => ?_
  have ht : t.val % 4 = 3 := (flush0_8 t).1 hf
  blk_simp
  rw [after0_8]
  obtain ⟨a, b, rfl⟩ : ∃ (a : Fin 8192) (b : Fin 128), y = ix2 a b := ⟨_, _, eq_ix2 y⟩
  have e0 : ((win0_8.blk t).view.emb (ix2 a b) 0).val = a.val := by blk_simp [idx t]
  have e1 : ((win0_8.blk t).view.emb (ix2 a b) 1).val = 128 * (t.val / 4) + b.val := by blk_simp [idx t]; simp; omega
  have g0 : (win0_8.blk t).view.emb (ix2 a b) 0 = a := Fin.ext e0
  rw [g0]
  generalize (win0_8.blk t).view.emb (ix2 a b) 1 = z at e1 ⊢
  by_cases hb : b.val < 64
  · have h1 : hd64 z = H0 t := Fin.ext (by show z.val / 64 = 2 * (t.val / 4); omega)
    have h2 : ln64 z = ⟨b.val, hb⟩ := Fin.ext (by show z.val % 64 = b.val; omega)
    rw [h1, h2]
    exact outs8a m c t ht a ⟨b.val, hb⟩
  · have h1 : hd64 z = H1 t := Fin.ext (by show z.val / 64 = 2 * (t.val / 4) + 1; omega)
    have h2 : ln64 z = ⟨b.val - 64, by omega⟩ := Fin.ext (by show z.val % 64 = b.val - 64; omega)
    have h3 : b = (⟨64 + (b.val - 64), by omega⟩ : Fin 128) := Fin.ext (by show b.val = 64 + (b.val - 64); omega)
    rw [h1, h2]
    refine (congrArg (fun b' : Fin 128 => (outsAt0 m c t.val t.isLt).2.2 (ix2 a b')) h3).trans ?_
    exact outs8b m c t ht a ⟨b.val - 64, by omega⟩
end Cert.KernelIdeal.Value
end
-- ==== Proof.RowMax.lean ====
module
public import Idealize.ShloMosaic.Lib.Claim
public import Idealize.ShloMosaic.Lib.Pipeline.ValueKit
public import Idealize.ShloMosaic.Lib.Pointwise

/-! The maximum along the last of three axes, at a row. -/

@[expose] public section
noncomputable section
namespace Cert
open Idealize.ShloMosaic

/-- The maximum along the last axis, at a row: the maximum of the row's entries and the initial value. -/
theorem reduce_max_row {n0 n1 n2 : Nat} {u : Shape} (x : (⟨3, ![n0, n1, n2]⟩ : Shape).Idx → EReal) (init : u.Idx → EReal)
    (h : (⟨3, ![n0, n1, n2]⟩ : Shape).ReducesTo [2] ⟨2, ![n0, n1]⟩) (hu : 0 < u.numel) (a : Fin n0) (b : Fin n1) :
    Host.reduce (FloatOps.maximumf (F := Ideal) (φ := .f32)) x init h hu (ix2 a b) =
      Finset.fold max (init (Shape.Idx.first hu)) (fun k : Fin n2 => x (ix3 a b k)) Finset.univ := by
  rw [Host.reduce_eq_fold, Shape.ReducesTo.fold_fiber_r3_a2]
  rfl

/-- The maximum along the last axis from a constant, at a row. -/
theorem max_row {n0 n1 n2 : Nat} (x : FVec Ideal (⟨3, ![n0, n1, n2]⟩ : Shape) .f32) (w : BitVec 32)
    (h : (⟨3, ![n0, n1, n2]⟩ : Shape).ReducesTo [2] ⟨2, ![n0, n1]⟩) (hu : 0 < (⟨0, ![]⟩ : Shape).numel) (a : Fin n0) (b : Fin n1) :
    Host.reduce (FloatOps.maximumf (F := Ideal) (φ := .f32)) x (constant (F := Ideal) ⟨0, ![]⟩ .f32 w) h hu (ix2 a b) =
      Finset.fold max (Ideal.ofBits .f32 w) (fun k : Fin n2 => x (ix3 a b k)) Finset.univ :=
  reduce_max_row x _ h hu a b

/-- The larger of a constant and the maximum along the last axis from that constant, at a row. -/
theorem top_row {n0 n1 n2 : Nat} (x : FVec Ideal (⟨3, ![n0, n1, n2]⟩ : Shape) .f32) (w : BitVec 32)
    (hb : (⟨0, ![]⟩ : Shape).BroadcastsInDim ⟨2, ![n0, n1]⟩ (![] : Fin 0 → Fin 2))
    (h : (⟨3, ![n0, n1, n2]⟩ : Shape).ReducesTo [2] ⟨2, ![n0, n1]⟩) (hu : 0 < (⟨0, ![]⟩ : Shape).numel) (a : Fin n0) (b : Fin n1) :
    maximumf (broadcastInDim ⟨2, ![n0, n1]⟩ ![] hb (constant (F := Ideal) ⟨0, ![]⟩ .f32 w))
      (Host.reduce (FloatOps.maximumf (F := Ideal) (φ := .f32)) x (constant (F := Ideal) ⟨0, ![]⟩ .f32 w) h hu) (ix2 a b) =
      max (Ideal.ofBits .f32 w) (Finset.fold max (Ideal.ofBits .f32 w) (fun k : Fin n2 => x (ix3 a b k)) Finset.univ) :=
  congrArg (fun z : EReal => max (Ideal.ofBits .f32 w) z) (reduce_max_row x _ h hu a b)
end Cert
end
-- ==== Proof.Entry.lean ====
module
public import proofs.«01_k».proof.Proof.Arrays
public import proofs.«01_k».proof.Proof.RowMax
public import Idealize.ShloMosaic.Lib.Claim
public import Idealize.ShloMosaic.Lib.Tactic.CleanTypes

/-! The six arrays the kernel is given, entry by entry, from the program's arguments. -/

@[expose] public section
set_option maxRecDepth 16384
noncomputable section
namespace Cert.KernelIdeal.Value
open Cert.KernelIdeal Cert.KernelIdeal.Gen
open Idealize.ShloMosaic Idealize.ShloMosaic.TcCoe Idealize.SL.Sem

variable (A B : FVec Ideal S8192x1024 .f32) (C D : FVec Ideal S8192x512 .f32)

/-- The queries, head by head. -/
def kQ : FVec Ideal S8192x8x128 .f32 := shapeCast _ A shapeCasts_S8192x1024_S8192x8x128
/-- The values, head by head. -/
def kV : FVec Ideal S8192x8x64 .f32 := shapeCast _ C shapeCasts_S8192x512_S8192x8x64
/-- The gradient of the output, head first. -/
def kD : FVec Ideal S8x8192x64 .f32 :=
  transpose S8x8192x64 [1, 0, 2] (shapeCast _ D shapeCasts_S8192x512_S8192x8x64) transposes_S8192x8x64_S8x8192x64_1_0_2
/-- The scores. -/
def kS : FVec Ideal S8x8192x8192 .f32 :=
  mulf (Host.dotGeneral dot_S8192x8x128_S8192x8x128_S8x8192x8192_2_2_0_0_1_1 none (kQ A) (kQ B))
    (broadcastInDim S8x8192x8192 ![] bcast_S_S8x8192x8192 (constant S_ .f32 0x3DD105EC#32))
/-- The row maximum. -/
def kM : FVec Ideal S8x8192 .f32 :=
  Host.reduce FloatOps.maximumf (kS A B) (constant S_ .f32 0xFF800000#32) reducesTo_S8x8192x8192_S8x8192_d2 h_S_
/-- The exponentials. -/
def kE : FVec Ideal S8x8192x8192 .f32 :=
  Host.exp (subf (kS A B) (broadcastInDim S8x8192x8192 ![0, 1, 2] bcast_S8x8192x1_S8x8192x8192_0_1_2
    (broadcastInDim S8x8192x1 ![0, 1] bcast_S8x8192_S8x8192x1_0_1 (kM A B))))
/-- The row sums of the exponentials. -/
def kL : FVec Ideal S8x8192 .f32 :=
  Host.reduceAdd (kE A B) (constant S_ .f32 0x00000000#32) reducesTo_S8x8192x8192_S8x8192_d2 h_S_
/-- The logarithm of the row sums, to base two. -/
def kLs : FVec Ideal S8x8192 .f32 :=
  Host.divf (addf (kM A B) (Host.log (kL A B))) (broadcastInDim S8x8192 ![] bcast_S_S8x8192 (Host.log (constant S_ .f32 0x40000000#32)))
/-- The weights. -/
def kP : FVec Ideal S8x8192x8192 .f32 :=
  Host.divf (kE A B) (broadcastInDim S8x8192x8192 ![0, 1, 2] bcast_S8x8192x1_S8x8192x8192_0_1_2
    (broadcastInDim S8x8192x1 ![0, 1] bcast_S8x8192_S8x8192x1_0_1 (kL A B)))
/-- The attention's output. -/
def kO : FVec Ideal S8x8192x64 .f32 :=
  Host.dotGeneral dot_S8x8192x8192_S8192x8x64_S8x8192x64_2_0_1_2_0_1 none (kP A B) (kV C)
/-- The output times its gradient, summed over a head's lanes. -/
def kDe : FVec Ideal S8x8192 .f32 :=
  Host.reduceAdd (mulf (kO A B C) (kD D)) (constant S_ .f32 0x00000000#32) reducesTo_S8x8192x64_S8x8192_d2 h_S_

variable (m : (ℓ : Loc nD τ sig) → Buf (Elt Ideal) ℓ) (c : Dev nD)

theorem v33_eq : V m c main_v33 = shapeCast S4x2x8192 (kLs (m ((c : Thread nD τ).loc main_arg0)) (m ((c : Thread nD τ).loc main_arg1))) shapeCasts_S8x8192_S4x2x8192 := by
  entry_read
  rfl
theorem v34_eq : V m c main_v34 = shapeCast S4x2x8192 (kDe (m ((c : Thread nD τ).loc main_arg0)) (m ((c : Thread nD τ).loc main_arg1))
    (m ((c : Thread nD τ).loc main_arg2)) (m ((c : Thread nD τ).loc main_arg3))) shapeCasts_S8x8192_S4x2x8192 := by
  entry_read
  rfl

variable (H : Fin 8) (q r : Fin 8192)

theorem lane128 (l : Fin 128) (h : H.val * 128 + l.val < 1024) : (⟨H.val * 128 + l.val, h⟩ : Fin 1024) = c128 H l :=
  Fin.ext (by show H.val * 128 + l.val = 128 * H.val + l.val; omega)
theorem lane64 (l : Fin 64) (h : H.val * 64 + l.val < 512) : (⟨H.val * 64 + l.val, h⟩ : Fin 512) = c64 H l :=
  Fin.ext (by show H.val * 64 + l.val = 64 * H.val + l.val; omega)
theorem pair_head (h : (hp H).val * 2 + (hh H).val < 8) : (⟨(hp H).val * 2 + (hh H).val, h⟩ : Fin 8) = H :=
  Fin.ext (by show H.val / 2 * 2 + H.val % 2 = H.val; omega)

theorem kQ_apply (l : Fin 128) : kQ A (ix3 q H l) = A (ix2 q (c128 H l)) := by
  pointwise [kQ]; rw [lane128]
theorem kV_apply (l : Fin 64) : kV C (ix3 q H l) = C (ix2 q (c64 H l)) := by
  pointwise [kV]; rw [lane64]
theorem kD_apply (l : Fin 64) : kD D (ix3 H q l) = D (ix2 q (c64 H l)) := by
  pointwise [kD]; rw [lane64]
theorem kS_apply : kS A B (ix3 H q r) = (∑ l : Fin 128, A (ix2 q (c128 H l)) * B (ix2 r (c128 H l))) * Ideal.ofBits .f32 0x3DD105EC#32 := by
  pointwise [kS]; simp only [kQ_apply]
theorem kM_apply : kM A B (ix2 H q) = Finset.fold max (Ideal.ofBits .f32 0xFF800000#32) (fun r : Fin 8192 => kS A B (ix3 H q r)) Finset.univ := by
  unfold kM
  exact Cert.max_row (kS A B) _ _ _ H q
theorem kE_apply : kE A B (ix3 H q r) = Ideal.exp (kS A B (ix3 H q r) - kM A B (ix2 H q)) := by
  pointwise [kE]
theorem kL_apply : kL A B (ix2 H q) = ∑ r : Fin 8192, kE A B (ix3 H q r) := by
  pointwise [kL]
theorem div_log_apply (M L : FVec Ideal S8x8192 .f32) :
    Host.divf (addf M (Host.log L)) (broadcastInDim S8x8192 ![] bcast_S_S8x8192 (Host.log (constant S_ .f32 0x40000000#32))) (ix2 H q) =
      Ideal.div (M (ix2 H q) + Ideal.log (L (ix2 H q))) (Ideal.log (Ideal.ofBits .f32 0x40000000#32)) := by
  pointwise
theorem kLs_apply : kLs A B (ix2 H q) = Ideal.div (kM A B (ix2 H q) + Ideal.log (kL A B (ix2 H q))) (Ideal.log (Ideal.ofBits .f32 0x40000000#32)) := by
  unfold kLs
  exact div_log_apply H q _ _
theorem kP_apply : kP A B (ix3 H q r) = Ideal.div (kE A B (ix3 H q r)) (kL A B (ix2 H q)) := by
  pointwise [kP]
theorem kO_apply (l : Fin 64) : kO A B C (ix3 H q l) = ∑ r : Fin 8192, kP A B (ix3 H q r) * C (ix2 r (c64 H l)) := by
  pointwise [kO]; simp only [kV_apply]
theorem kDe_apply : kDe A B C D (ix2 H q) = ∑ l : Fin 64, kO A B C (ix3 H q l) * D (ix2 q (c64 H l)) := by
  pointwise [kDe]; simp only [kD_apply]

theorem v29_apply (A : FVec Ideal S8192x1024 .f32) (hA : m ((c : Thread nD τ).loc main_arg0) = A) (x : Fin 1024) : V m c main_v29 (ix2 q x) =
    Ideal.div (A (ix2 q x) * Ideal.ofBits .f32 0x3DD105EC#32) (Ideal.log (Ideal.ofBits .f32 0x40000000#32)) := by
  subst hA
  entry_read
  pointwise
theorem v30_apply (x : Fin 1024) : V m c main_v30 (ix2 q x) = m ((c : Thread nD τ).loc main_arg1) (ix2 q x) := by
  entry_read
  pointwise
theorem v31_apply (x : Fin 512) : V m c main_v31 (ix2 q x) = m ((c : Thread nD τ).loc main_arg2) (ix2 q x) := by
  entry_read
  pointwise
theorem v32_apply (x : Fin 512) : V m c main_v32 (ix2 q x) = m ((c : Thread nD τ).loc main_arg3) (ix2 q x) := by
  entry_read
  pointwise
theorem v33_apply : V m c main_v33 (ix3 (hp H) (hh H) q) = kLs (m ((c : Thread nD τ).loc main_arg0)) (m ((c : Thread nD τ).loc main_arg1)) (ix2 H q) := by
  rw [v33_eq]; pointwise; rw [pair_head]
theorem v34_apply : V m c main_v34 (ix3 (hp H) (hh H) q) = kDe (m ((c : Thread nD τ).loc main_arg0)) (m ((c : Thread nD τ).loc main_arg1))
    (m ((c : Thread nD τ).loc main_arg2)) (m ((c : Thread nD τ).loc main_arg3)) (ix2 H q) := by
  rw [v34_eq]; pointwise; rw [pair_head]
end Cert.KernelIdeal.Value
end
-- ==== Proof.Ref.lean ====
module
public import proofs.«01_k».proof.Proof.Arrays
public import proofs.«01_k».proof.Proof.RowMax
public import proofs.«01_k».proof.Proof.Gen.ReferenceIdeal.Run
public import Idealize.ShloMosaic.Lib.Claim
public import Idealize.ShloMosaic.Lib.Pipeline.ValueKit
public import Idealize.ShloMosaic.Lib.Pointwise
public import Idealize.ShloMosaic.Lib.Tactic.CleanTypes

/-! The reference's arrays, read entry by entry.  The generated run gives each result as one term; here the term is cut at
the arrays a reader of the gradient would name (scores, row maximum, exponentials, row sums, …), and each is read at an index. -/

@[expose] public section
set_option maxRecDepth 16384
noncomputable section
namespace Cert.ReferenceIdeal.Value
open Cert.ReferenceIdeal Cert.ReferenceIdeal.Gen
open Idealize.ShloMosaic Idealize.ShloMosaic.TcCoe Idealize.SL.Sem
open Cert.KernelIdeal.Value (c128 c64 hd128 ln128 hd64 ln64)

variable (A B : FVec Ideal S8192x1024 .f32) (C D : FVec Ideal S8192x512 .f32)

/-- The scaled queries, head by head. -/
def rQ : FVec Ideal S8192x8x128 .f32 :=
  shapeCast _ (mulf A (broadcastInDim S8192x1024 ![] bcast_S_S8192x1024 (constant S_ .f32 0x3DD105EC#32))) shapeCasts_S8192x1024_S8192x8x128
/-- The keys, head by head. -/
def rK : FVec Ideal S8192x8x128 .f32 := shapeCast _ B shapeCasts_S8192x1024_S8192x8x128
/-- The values, head by head. -/
def rV : FVec Ideal S8192x8x64 .f32 := shapeCast _ C shapeCasts_S8192x512_S8192x8x64
/-- The gradient of the output, head and lane first. -/
def rD : FVec Ideal S8x64x8192 .f32 :=
  transpose S8x64x8192 [1, 2, 0] (shapeCast _ D shapeCasts_S8192x512_S8192x8x64) transposes_S8192x8x64_S8x64x8192_1_2_0
/-- The scores. -/
def rS : FVec Ideal S8x8192x8192 .f32 :=
  Host.dotGeneral dot_S8192x8x128_S8192x8x128_S8x8192x8192_2_2_0_0_1_1 none (rQ A) (rK B)
/-- The row maximum. -/
def rM : FVec Ideal S8x8192 .f32 :=
  maximumf (broadcastInDim S8x8192 ![] bcast_S_S8x8192 (constant S_ .f32 0xFF800000#32))
    (Host.reduce FloatOps.maximumf (rS A B) (constant S_ .f32 0xFF800000#32) reducesTo_S8x8192x8192_S8x8192_d2 h_S_)
/-- The exponentials. -/
def rE : FVec Ideal S8x8192x8192 .f32 :=
  Host.exp (subf (rS A B) (broadcastInDim S8x8192x8192 ![0, 1, 2] bcast_S8x8192x1_S8x8192x8192_0_1_2
    (broadcastInDim S8x8192x1 ![0, 1] bcast_S8x8192_S8x8192x1_0_1 (rM A B))))
/-- The row sums of the exponentials. -/
def rL : FVec Ideal S8x8192x1 .f32 :=
  broadcastInDim S8x8192x1 ![0, 1] bcast_S8x8192_S8x8192x1_0_1
    (Host.reduceAdd (rE A B) (constant S_ .f32 0x00000000#32) reducesTo_S8x8192x8192_S8x8192_d2 h_S_)
/-- The weights. -/
def rP : FVec Ideal S8x8192x8192 .f32 :=
  Host.divf (rE A B) (broadcastInDim S8x8192x8192 ![0, 1, 2] bcast_S8x8192x1_S8x8192x8192_0_1_2 (rL A B))
/-- The gradient with respect to the weights. -/
def rG : FVec Ideal S8x8192x8192 .f32 :=
  Host.dotGeneral dot_S8x64x8192_S8192x8x64_S8x8192x8192_1_2_2_0_0_1 none (rD D) (rV C)
/-- One over the squared row sums. -/
def rI : FVec Ideal S8x8192x1 .f32 :=
  Host.divf (broadcastInDim S8x8192x1 ![] bcast_S_S8x8192x1 (constant S_ .f32 0x3F800000#32)) (mulf (rL A B) (rL A B))
/-- The gradient with respect to the row sums, up to its sign. -/
def rT : FVec Ideal S8x8192 .f32 :=
  Host.reduceAdd (mulf (mulf (rG C D) (broadcastInDim S8x8192x8192 ![0, 1, 2] bcast_S8x8192x1_S8x8192x8192_0_1_2 (rI A B))) (rE A B))
    (constant S_ .f32 0x00000000#32) reducesTo_S8x8192x8192_S8x8192_d2 h_S_
/-- The gradient with respect to the row sums. -/
def rU : FVec Ideal S8x8192 .f32 :=
  Host.reduceAdd (Host.negf (shapeCast S8x8192x1 (rT A B C D) shapeCasts_S8x8192_S8x8192x1)) (constant S_ .f32 0x00000000#32)
    reducesTo_S8x8192x1_S8x8192_d2 h_S_
/-- The gradient with respect to the scores. -/
def rX : FVec Ideal S8x8192x8192 .f32 :=
  mulf (addf (Host.divf (rG C D) (broadcastInDim S8x8192x8192 ![0, 1, 2] bcast_S8x8192x1_S8x8192x8192_0_1_2 (rL A B)))
    (broadcastInDim S8x8192x8192 ![0, 1] bcast_S8x8192_S8x8192x8192_0_1 (rU A B C D))) (rE A B)
/-- The gradient with respect to the queries. -/
def rDq : FVec Ideal S8192x1024 .f32 :=
  shapeCast _ (transpose S8192x8x128 [1, 0, 2] (Host.dotGeneral dot_S8x8192x8192_S8192x8x128_S8x8192x128_2_0_1_2_0_1 none
    (rX A B C D) (rK B)) transposes_S8x8192x128_S8192x8x128_1_0_2) shapeCasts_S8192x8x128_S8192x1024
/-- The gradient with respect to the keys, divided by the logarithm of two. -/
def rDk : FVec Ideal S8192x1024 .f32 :=
  Host.divf (shapeCast _ (transpose S8192x8x128 [1, 0, 2] (Host.dotGeneral dot_S8x8192x8192_S8192x8x128_S8x8192x128_1_0_2_2_0_1 none
    (rX A B C D) (rQ A)) transposes_S8x8192x128_S8192x8x128_1_0_2) shapeCasts_S8192x8x128_S8192x1024)
    (broadcastInDim S8192x1024 ![] bcast_S_S8192x1024 (Host.log (constant S_ .f32 0x40000000#32)))
/-- The gradient with respect to the values. -/
def rDv : FVec Ideal S8192x512 .f32 :=
  shapeCast _ (transpose S8192x8x64 [2, 0, 1] (Host.dotGeneral dot_S8x64x8192_S8x8192x8192_S8x64x8192_2_1_1_2_0_0 none
    (rD D) (rP A B)) transposes_S8x64x8192_S8192x8x64_2_0_1) shapeCasts_S8192x8x64_S8192x512

theorem res60_eq (m : (ℓ : Loc nD τ sig) → Buf (Elt Ideal) ℓ) (c : Dev nD) : res_main_v60 m c =
    rDq (m ((c.tc : Thread nD τ).loc main_arg0)) (m ((c.tc : Thread nD τ).loc main_arg1)) (m ((c.tc : Thread nD τ).loc main_arg2)) (m ((c.tc : Thread nD τ).loc main_arg3)) := rfl

theorem res63_eq (m : (ℓ : Loc nD τ sig) → Buf (Elt Ideal) ℓ) (c : Dev nD) : res_main_v63 m c =
    rDk (m ((c.tc : Thread nD τ).loc main_arg0)) (m ((c.tc : Thread nD τ).loc main_arg1)) (m ((c.tc : Thread nD τ).loc main_arg2)) (m ((c.tc : Thread nD τ).loc main_arg3)) := rfl

variable (H : Fin 8) (q r : Fin 8192)

theorem lane128 (l : Fin 128) (h : H.val * 128 + l.val < 1024) : (⟨H.val * 128 + l.val, h⟩ : Fin 1024) = c128 H l :=
  Fin.ext (by show H.val * 128 + l.val = 128 * H.val + l.val; omega)
theorem lane64 (l : Fin 64) (h : H.val * 64 + l.val < 512) : (⟨H.val * 64 + l.val, h⟩ : Fin 512) = c64 H l :=
  Fin.ext (by show H.val * 64 + l.val = 64 * H.val + l.val; omega)

theorem rQ_apply (l : Fin 128) : rQ A (ix3 q H l) = A (ix2 q (c128 H l)) * Ideal.ofBits .f32 0x3DD105EC#32 := by
  pointwise [rQ]; rw [lane128]
theorem rK_apply (l : Fin 128) : rK B (ix3 q H l) = B (ix2 q (c128 H l)) := by
  pointwise [rK]; rw [lane128]
theorem rV_apply (l : Fin 64) : rV C (ix3 q H l) = C (ix2 q (c64 H l)) := by
  pointwise [rV]; rw [lane64]
theorem rD_apply (l : Fin 64) : rD D (ix3 H l q) = D (ix2 q (c64 H l)) := by
  pointwise [rD]; rw [lane64]
theorem rS_apply : rS A B (ix3 H q r) = ∑ l : Fin 128, A (ix2 q (c128 H l)) * Ideal.ofBits .f32 0x3DD105EC#32 * B (ix2 r (c128 H l)) := by
  pointwise [rS]; simp only [rQ_apply, rK_apply]
theorem rM_apply : rM A B (ix2 H q) = max (Ideal.ofBits .f32 0xFF800000#32)
    (Finset.fold max (Ideal.ofBits .f32 0xFF800000#32) (fun r : Fin 8192 => rS A B (ix3 H q r)) Finset.univ) := by
  unfold rM
  exact Cert.top_row (rS A B) _ _ _ _ H q
theorem rE_apply : rE A B (ix3 H q r) = Ideal.exp (rS A B (ix3 H q r) - rM A B (ix2 H q)) := by
  pointwise [rE]
theorem rL_apply : rL A B (ix3 H q 0) = ∑ r : Fin 8192, rE A B (ix3 H q r) := by
  pointwise [rL]
theorem rP_apply : rP A B (ix3 H q r) = Ideal.div (rE A B (ix3 H q r)) (rL A B (ix3 H q 0)) := by
  pointwise [rP]
theorem rG_apply : rG C D (ix3 H q r) = ∑ l : Fin 64, D (ix2 q (c64 H l)) * C (ix2 r (c64 H l)) := by
  pointwise [rG]; simp only [rD_apply, rV_apply]
theorem rI_apply : rI A B (ix3 H q 0) = Ideal.div 1 (rL A B (ix3 H q 0) * rL A B (ix3 H q 0)) := by
  pointwise [rI]
theorem rT_apply : rT A B C D (ix2 H q) = ∑ r : Fin 8192, rG C D (ix3 H q r) * rI A B (ix3 H q 0) * rE A B (ix3 H q r) := by
  pointwise [rT]
theorem rU_apply : rU A B C D (ix2 H q) = - rT A B C D (ix2 H q) := by
  pointwise [rU]; simp
theorem rX_apply : rX A B C D (ix3 H q r) =
    (Ideal.div (rG C D (ix3 H q r)) (rL A B (ix3 H q 0)) + rU A B C D (ix2 H q)) * rE A B (ix3 H q r) := by
  pointwise [rX]
theorem rDq_apply (x : Fin 1024) : rDq A B C D (ix2 q x) = ∑ r : Fin 8192, rX A B C D (ix3 (hd128 x) q r) * B (ix2 r (c128 (hd128 x) (ln128 x))) := by
  pointwise [rDq]; simp only [← rK_apply]; rfl
theorem rDk_apply (x : Fin 1024) : rDk A B C D (ix2 r x) = Ideal.div (∑ q : Fin 8192, rX A B C D (ix3 (hd128 x) q r) *
    (A (ix2 q (c128 (hd128 x) (ln128 x))) * Ideal.ofBits .f32 0x3DD105EC#32)) (Ideal.log (Ideal.ofBits .f32 0x40000000#32)) := by
  pointwise [rDk]; simp only [← rQ_apply]; rfl
theorem rDv_apply (x : Fin 512) : rDv A B D (ix2 r x) = ∑ q : Fin 8192, D (ix2 q (c64 (hd64 x) (ln64 x))) * rP A B (ix3 (hd64 x) q r) := by
  pointwise [rDv]; simp only [← rD_apply]; rfl
end Cert.ReferenceIdeal.Value
end
-- ==== Proof.Reals.lean ====
module
public import proofs.«01_k».proof.Proof.Entry
public import proofs.«01_k».proof.Proof.Ref

/-! The kernel's weights and their gradients against the reference's, over arguments whose every entry is a real number. -/

@[expose] public section
set_option maxRecDepth 16384
noncomputable section
namespace Cert.Attn
open Idealize.ShloMosaic
open Cert.KernelIdeal.Value Cert.ReferenceIdeal.Value

/-- A sum of real numbers, taken among the extended reals. -/
theorem sum_real {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of real numbers, taken among the extended reals. -/
theorem div_real (x y : ℝ) (h : y ≠ 0) : Ideal.div (x : EReal) (y : EReal) = ((x / y : ℝ) : EReal) := by
  rw [Ideal.div_coe h, ← EReal.coe_mul, mul_one_div]

/-- The maximum of at least one real number is a real number. -/
theorem max_real {n : Nat} (f : Fin (n + 1) → ℝ) :
    ∃ M : ℝ, Finset.fold max (⊥ : EReal) (fun r => ((f r : ℝ) : EReal)) Finset.univ = (M : EReal) := by
  classical
  have key : ∀ s : Finset (Fin (n + 1)), s.Nonempty → ∃ M : ℝ, Finset.fold max (⊥ : EReal) (fun r => ((f r : ℝ) : EReal)) s = (M : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM]; exact (EReal.coe_strictMono.monotone.map_max).symm⟩
  exact key _ Finset.univ_nonempty

theorem bits_bot : Ideal.ofBits .f32 0xFF800000#32 = (⊥ : EReal) := by
  simp [Ideal.ofBits, Ideal.ieee]
theorem bits_top : Ideal.ofBits .f32 0x7F800000#32 = (⊤ : EReal) := by
  simp [Ideal.ofBits, Ideal.ieee]
theorem bits_two : Ideal.ofBits .f32 0x40000000#32 = ((2 : ℝ) : EReal) := by
  simp [Ideal.ofBits, Ideal.ieee, -EReal.coe_mul]; norm_num
theorem bits_scale : ∃ s : ℝ, Ideal.ofBits .f32 0x3DD105EC#32 = (s : EReal) := by
  simp only [Ideal.ofBits, Ideal.ieee]
  rw [if_neg (by decide), if_neg (by decide)]
  exact ⟨_, rfl⟩

theorem log_two_ne : Real.log 2 ≠ 0 := (Real.log_pos (by norm_num)).ne'

theorem bits_log_two : Ideal.log (Ideal.ofBits .f32 0x40000000#32) = ((Real.log 2 : ℝ) : EReal) := by
  rw [bits_two, Ideal.log_coe, if_neg (by norm_num)]

/-- The kernel's weight: two to the power of the scaled score less the row's logarithm is the row's share. -/
theorem weight (s M l L : ℝ) (hl : 0 < l) (hL : L = Real.log 2) : Real.rpow 2 (s / L - (M + Real.log l) / L) = Real.exp (s - M) / l := by
  have h2 : Real.log 2 ≠ 0 := log_two_ne
  subst hL
  show (2 : ℝ) ^ (s / Real.log 2 - (M + Real.log l) / Real.log 2) = _
  rw [Real.rpow_def_of_pos (by norm_num), show Real.log 2 * (s / Real.log 2 - (M + Real.log l) / Real.log 2) = (s - M) - Real.log l by field_simp; ring,
    Real.exp_sub, Real.exp_log hl]

/-- What the kernel and the reference share, over real arguments. -/
theorem shared (A B : FVec Ideal Cert.KernelIdeal.S8192x1024 .f32) (C D : FVec Ideal Cert.KernelIdeal.S8192x512 .f32)
    (Q K : FVec Ideal Cert.KernelIdeal.S8192x1024 .bf16) (VV DO : FVec Ideal Cert.KernelIdeal.S8192x512 .bf16)
    (LS DE : FVec Ideal Cert.KernelIdeal.S4x2x8192 .f32)
    (a b : Fin 8192 → Fin 1024 → ℝ) (v d : Fin 8192 → Fin 512 → ℝ)
    (hA : ∀ q x, A (ix2 q x) = ((a q x : ℝ) : EReal)) (hB : ∀ q x, B (ix2 q x) = ((b q x : ℝ) : EReal))
    (hC : ∀ q x, C (ix2 q x) = ((v q x : ℝ) : EReal)) (hD : ∀ q x, D (ix2 q x) = ((d q x : ℝ) : EReal))
    (hQ : ∀ q x, Q (ix2 q x) = Ideal.div (A (ix2 q x) * Ideal.ofBits .f32 0x3DD105EC#32) (Ideal.log (Ideal.ofBits .f32 0x40000000#32)))
    (hK : ∀ q x, K (ix2 q x) = B (ix2 q x)) (hV : ∀ q x, VV (ix2 q x) = C (ix2 q x)) (hO : ∀ q x, DO (ix2 q x) = D (ix2 q x))
    (hLS : ∀ H q, LS (ix3 (hp H) (hh H) q) = kLs A B (ix2 H q)) (hDE : ∀ H q, DE (ix3 (hp H) (hh H) q) = kDe A B C D (ix2 H q))
    (H : Fin 8) (q r : Fin 8192) :
    wG Q K LS H q r = rP A B (ix3 H q r) ∧ dG Q K VV DO LS DE H q r = rX A B C D (ix3 H q r)
      ∧ ∃ x : ℝ, rX A B C D (ix3 H q r) = (x : EReal) := by
  obtain ⟨sc, hsc⟩ := bits_scale
  -- the scores
  have hkS : ∀ r, kS A B (ix3 H q r) = (((∑ l : Fin 128, a q (c128 H l) * b r (c128 H l)) * sc : ℝ) : EReal) := by
    intro r
    rw [kS_apply]
    simp only [hA, hB, hsc, ← EReal.coe_mul, sum_real]
  have hrS : ∀ r, rS A B (ix3 H q r) = (((∑ l : Fin 128, a q (c128 H l) * b r (c128 H l)) * sc : ℝ) : EReal) := by
    intro r
    rw [rS_apply]
    simp only [hA, hB, hsc, ← EReal.coe_mul, sum_real]
    rw [Finset.sum_mul]
    exact congrArg (fun z : ℝ => (z : EReal)) (Finset.sum_congr rfl fun l _ => by ring)
  obtain ⟨s, hs⟩ : ∃ s : Fin 8192 → ℝ, s = fun r => (∑ l : Fin 128, a q (c128 H l) * b r (c128 H l)) * sc := ⟨_, rfl⟩
  have hkS' : ∀ r, kS A B (ix3 H q r) = ((s r : ℝ) : EReal) := fun r => by rw [hkS, hs]
  have hrS' : ∀ r, rS A B (ix3 H q r) = ((s r : ℝ) : EReal) := fun r => by rw [hrS, hs]
  -- the maximum
  obtain ⟨M, hM⟩ := max_real (n := 8191) s
  have hkM : kM A B (ix2 H q) = (M : EReal) := by
    rw [kM_apply, bits_bot]
    simp only [hkS']
    exact hM
  have hrM : rM A B (ix2 H q) = (M : EReal) := by
    rw [rM_apply, bits_bot]
    simp only [hrS']
    exact (max_eq_right bot_le).trans hM
  -- the exponentials and their sum
  have hkE : ∀ r, kE A B (ix3 H q r) = ((Real.exp (s r - M) : ℝ) : EReal) := fun r => by
    rw [kE_apply, hkS', hkM, ← EReal.coe_sub, Ideal.exp_coe]
  have hrE : ∀ r, rE A B (ix3 H q r) = ((Real.exp (s r - M) : ℝ) : EReal) := fun r => by
    rw [rE_apply, hrS', hrM, ← EReal.coe_sub, Ideal.exp_coe]
  obtain ⟨e, he⟩ : ∃ e : Fin 8192 → ℝ, e = fun r => Real.exp (s r - M) := ⟨_, rfl⟩
  have hkE' : ∀ r, kE A B (ix3 H q r) = ((e r : ℝ) : EReal) := fun r => by rw [hkE, he]
  have hrE' : ∀ r, rE A B (ix3 H q r) = ((e r : ℝ) : EReal) := fun r => by rw [hrE, he]
  obtain ⟨l, hl⟩ : ∃ l : ℝ, l = ∑ r, e r := ⟨_, rfl⟩
  have hl0 : 0 < l := by
    rw [hl, he]
    exact Finset.sum_pos (fun r _ => Real.exp_pos _) Finset.univ_nonempty
  have hkL : kL A B (ix2 H q) = (l : EReal) := by
    rw [kL_apply]
    simp only [hkE', sum_real, hl]
  have hrL : rL A B (ix3 H q 0) = (l : EReal) := by
    rw [rL_apply]
    simp only [hrE', sum_real, hl]
  have hkP : ∀ r, kP A B (ix3 H q r) = ((e r / l : ℝ) : EReal) := fun r => by
    rw [kP_apply, hkE', hkL, div_real _ _ hl0.ne']
  have hrP : ∀ r, rP A B (ix3 H q r) = ((e r / l : ℝ) : EReal) := fun r => by
    rw [rP_apply, hrE', hrL, div_real _ _ hl0.ne']
  have hkLs : kLs A B (ix2 H q) = (((M + Real.log l) / Real.log 2 : ℝ) : EReal) := by
    rw [kLs_apply, hkM, hkL, bits_log_two, Ideal.log_coe, if_neg (not_le.2 hl0), ← EReal.coe_add, div_real _ _ log_two_ne]
  -- the kernel's weight
  have hw : ∀ r, wG Q K LS H q r = ((e r / l : ℝ) : EReal) := by
    intro r
    unfold wG
    rw [hLS, hkLs]
    simp only [hQ, hK, hA, hB, hsc, bits_log_two, ← EReal.coe_mul, div_real _ _ log_two_ne, sum_real, ← EReal.coe_sub, Ideal.exp2_coe]
    rw [show (∑ l : Fin 128, b r (c128 H l) * (a q (c128 H l) * sc / Real.log 2)) = s r / Real.log 2 from ?_]
    · rw [weight (s r) M l _ hl0 rfl, he]
    · rw [hs]
      show _ = (∑ l : Fin 128, a q (c128 H l) * b r (c128 H l)) * sc / Real.log 2
      rw [Finset.sum_mul, Finset.sum_div]
      exact Finset.sum_congr rfl fun l _ => by ring
  -- the gradient of the weights
  obtain ⟨g, hg⟩ : ∃ g : Fin 8192 → ℝ, g = fun r => ∑ l : Fin 64, d q (c64 H l) * v r (c64 H l) := ⟨_, rfl⟩
  have hrG : ∀ r, rG C D (ix3 H q r) = ((g r : ℝ) : EReal) := by
    intro r
    rw [rG_apply]
    simp only [hC, hD, ← EReal.coe_mul, sum_real, hg]
  have hkG : ∀ r, (∑ l : Fin 64, VV (ix2 r (c64 H l)) * DO (ix2 q (c64 H l))) = ((g r : ℝ) : EReal) := by
    intro r
    simp only [hV, hO, hC, hD, ← EReal.coe_mul, sum_real, hg]
    exact congrArg (fun z : ℝ => (z : EReal)) (Finset.sum_congr rfl fun l _ => mul_comm _ _)
  obtain ⟨w, hwd⟩ : ∃ w : ℝ, w = ∑ r, e r / l * g r := ⟨_, rfl⟩
  have hde : kDe A B C D (ix2 H q) = (w : EReal) := by
    rw [kDe_apply]
    simp only [kO_apply, hkP, hC, hD, ← EReal.coe_mul, sum_real]
    refine congrArg (fun z : ℝ => (z : EReal)) ?_
    rw [hwd, hg]
    simp only [Finset.sum_mul, Finset.mul_sum]
    rw [Finset.sum_comm]
    exact Finset.sum_congr rfl fun r _ => Finset.sum_congr rfl fun l _ => by ring
  have hT : rT A B C D (ix2 H q) = ((w / l : ℝ) : EReal) := by
    rw [rT_apply]
    simp only [rI_apply, hrG, hrL, hrE']
    have h1 : Ideal.div (1 : EReal) ((l : EReal) * (l : EReal)) = ((1 / (l * l) : ℝ) : EReal) := by
      rw [← EReal.coe_mul, ← EReal.coe_one]
      exact div_real 1 (l * l) (mul_pos hl0 hl0).ne'
    rw [h1]
    simp only [← EReal.coe_mul, sum_real]
    refine congrArg (fun z : ℝ => (z : EReal)) ?_
    rw [hwd, Finset.sum_div]
    refine Finset.sum_congr rfl fun r _ => ?_
    have := hl0.ne'
    field_simp
  have hX : rX A B C D (ix3 H q r) = ((e r / l * (g r - w) : ℝ) : EReal) := by
    rw [rX_apply, rU_apply, hT, hrG, hrL, hrE', div_real _ _ hl0.ne', ← EReal.coe_neg, ← EReal.coe_add, ← EReal.coe_mul]
    refine congrArg (fun z : ℝ => (z : EReal)) ?_
    have := hl0.ne'
    field_simp
    ring
  refine ⟨by rw [hw, hrP], ?_, _, hX⟩
  unfold dG
  rw [hX, hw, hkG, hDE, hde, ← EReal.coe_sub, ← EReal.coe_mul]

end Cert.Attn
end
-- ==== Proof.Main.lean ====
module
public import proofs.«01_k».proof.Proof.Final
public import proofs.«01_k».proof.Proof.Reals
public import proofs.«01_k».proof.Defs
public import proofs.«01_k».proof.Proof.Gen.Pre_finite
public import Idealize.ShloMosaic.Lib.ReduceAll

/-! The two programs' results are equal. -/

@[expose] public section
set_option maxRecDepth 16384
noncomputable section
namespace Cert.Attn
open Idealize.ShloMosaic Idealize.ShloMosaic.TcCoe Idealize.SL.Sem
open Cert.KernelIdeal.Value Cert.ReferenceIdeal.Value

theorem bit_and {x y : BitVec 1} (h : IntOp.andi x y = 1#1) : x = 1#1 ∧ y = 1#1 := by
  revert x y; decide

/-- An extended real whose magnitude is below infinity is a real number. -/
theorem real_of_lt (x : EReal) (h : Ideal.cmp .olt (max x (-x)) (Ideal.ofBits .f32 0x7F800000#32) = 1#1) : x = ((x.toReal : ℝ) : EReal) := by
  rw [bits_top] at h
  have h' : max x (-x) < (⊤ : EReal) := by
    by_contra hn
    simp [Ideal.cmp, hn] at h
  refine (EReal.coe_toReal ?_ ?_).symm
  · rintro rfl; simp at h'
  · rintro rfl; simp at h'

/-- Under the precondition every entry of the four arguments is a real number. -/
theorem entries (A B : FVec Ideal Cert.Pre_finite.S8192x1024 .f32) (C D : FVec Ideal Cert.Pre_finite.S8192x512 .f32)
    (h : Cert.Pre_finite.fn (F := Ideal) A B C D = fun _ => 1#1) :
    (∀ i, A i = (((A i).toReal : ℝ) : EReal)) ∧ (∀ i, B i = (((B i).toReal : ℝ) : EReal))
      ∧ (∀ i, C i = (((C i).toReal : ℝ) : EReal)) ∧ (∀ i, D i = (((D i).toReal : ℝ) : EReal)) := by
  have h0 := congrFun h (fun a => a.elim0)
  obtain ⟨h1, hD⟩ := bit_and h0
  obtain ⟨h2, hC⟩ := bit_and h1
  obtain ⟨hA, hB⟩ := bit_and h2
  haveI : Subsingleton Cert.Pre_finite.S_.Idx := ⟨fun a b => funext fun i => i.elim0⟩
  exact ⟨fun i => real_of_lt _ (Host.reduce_andi_all _ _ _ _ _ hA i), fun i => real_of_lt _ (Host.reduce_andi_all _ _ _ _ _ hB i),
    fun i => real_of_lt _ (Host.reduce_andi_all _ _ _ _ _ hC i), fun i => real_of_lt _ (Host.reduce_andi_all _ _ _ _ _ hD i)⟩

variable (A B : FVec Ideal Cert.KernelIdeal.S8192x1024 .f32) (C D : FVec Ideal Cert.KernelIdeal.S8192x512 .f32)
    (Q K : FVec Ideal Cert.KernelIdeal.S8192x1024 .bf16) (VV DO : FVec Ideal Cert.KernelIdeal.S8192x512 .bf16)
    (LS DE : FVec Ideal Cert.KernelIdeal.S4x2x8192 .f32)

/-- The three gradients agree, entry by entry, once the arguments are real and the kernel's arrays are the entry arrays. -/
theorem agree (a b : Fin 8192 → Fin 1024 → ℝ) (v d : Fin 8192 → Fin 512 → ℝ)
    (hA : ∀ q x, A (ix2 q x) = ((a q x : ℝ) : EReal)) (hB : ∀ q x, B (ix2 q x) = ((b q x : ℝ) : EReal))
    (hC : ∀ q x, C (ix2 q x) = ((v q x : ℝ) : EReal)) (hD : ∀ q x, D (ix2 q x) = ((d q x : ℝ) : EReal))
    (hQ : ∀ q x, Q (ix2 q x) = Ideal.div (A (ix2 q x) * Ideal.ofBits .f32 0x3DD105EC#32) (Ideal.log (Ideal.ofBits .f32 0x40000000#32)))
    (hK : ∀ q x, K (ix2 q x) = B (ix2 q x)) (hV : ∀ q x, VV (ix2 q x) = C (ix2 q x)) (hO : ∀ q x, DO (ix2 q x) = D (ix2 q x))
    (hLS : ∀ H q, LS (ix3 (hp H) (hh H) q) = kLs A B (ix2 H q)) (hDE : ∀ H q, DE (ix3 (hp H) (hh H) q) = kDe A B C D (ix2 H q)) :
    (∀ (q : Fin 8192) (x : Fin 1024), dqE Q K VV DO LS DE (hd128 x) q (ln128 x) = rDq A B C D (ix2 q x))
      ∧ (∀ (r : Fin 8192) (x : Fin 1024), dkE Q K VV DO LS DE (hd128 x) r (ln128 x) = rDk A B C D (ix2 r x))
      ∧ (∀ (r : Fin 8192) (x : Fin 512), dvE Q K DO LS (hd64 x) r (ln64 x) = rDv A B D (ix2 r x)) := by
  have sh := shared A B C D Q K VV DO LS DE a b v d hA hB hC hD hQ hK hV hO hLS hDE
  refine ⟨fun q x => ?_, fun r x => ?_, fun r x => ?_⟩
  · rw [rDq_apply]
    unfold dqE
    exact Finset.sum_congr rfl fun r _ => by rw [(sh _ q r).2.1, hK]; exact mul_comm _ _
  · rw [rDk_apply]
    unfold dkE
    obtain ⟨sc, hsc⟩ := bits_scale
    choose X hX using fun q => (sh (hd128 x) q r).2.2
    simp only [(sh _ _ r).2.1, hQ, hX, hA, hsc, bits_log_two, ← EReal.coe_mul, div_real _ _ log_two_ne, sum_real]
    refine congrArg (fun z : ℝ => (z : EReal)) ?_
    rw [Finset.sum_div]
    exact Finset.sum_congr rfl fun q _ => by ring
  · rw [rDv_apply]
    unfold dvE
    exact Finset.sum_congr rfl fun q _ => by rw [(sh _ q r).1, hO]; exact mul_comm _ _

variable (m : (ℓ : Loc Cert.KernelIdeal.nD Cert.KernelIdeal.τ Cert.KernelIdeal.sig) → Buf (Elt Ideal) ℓ) (c : Dev Cert.KernelIdeal.nD)

/-- The kernel's three result arrays are the reference's three gradients of its arguments. -/
theorem gradients (A B : FVec Ideal Cert.KernelIdeal.S8192x1024 .f32) (C D : FVec Ideal Cert.KernelIdeal.S8192x512 .f32)
    (mA : m ((c.tc : Thread Cert.KernelIdeal.nD Cert.KernelIdeal.τ).loc Cert.KernelIdeal.main_arg0) = A)
    (mB : m ((c.tc : Thread Cert.KernelIdeal.nD Cert.KernelIdeal.τ).loc Cert.KernelIdeal.main_arg1) = B)
    (mC : m ((c.tc : Thread Cert.KernelIdeal.nD Cert.KernelIdeal.τ).loc Cert.KernelIdeal.main_arg2) = C)
    (mD : m ((c.tc : Thread Cert.KernelIdeal.nD Cert.KernelIdeal.τ).loc Cert.KernelIdeal.main_arg3) = D)
    (h : Cert.Pre_finite.fn (F := Ideal) A B C D = fun _ => 1#1) :
    rDq A B C D = (Cert.KernelIdeal.Gen.dats m 0 c).arrAt 6 Cert.KernelIdeal.cfg0.N
      ∧ rDk A B C D = (Cert.KernelIdeal.Gen.dats m 0 c).arrAt 7 Cert.KernelIdeal.cfg0.N
      ∧ rDv A B D = (Cert.KernelIdeal.Gen.dats m 0 c).arrAt 8 Cert.KernelIdeal.cfg0.N := by
  obtain ⟨rA, rB, rC, rD⟩ := entries A B C D h
  have key := agree A B C D (Cert.KernelIdeal.Gen.V m c Cert.KernelIdeal.main_v29) (Cert.KernelIdeal.Gen.V m c Cert.KernelIdeal.main_v30)
    (Cert.KernelIdeal.Gen.V m c Cert.KernelIdeal.main_v31) (Cert.KernelIdeal.Gen.V m c Cert.KernelIdeal.main_v32)
    (Cert.KernelIdeal.Gen.V m c Cert.KernelIdeal.main_v33) (Cert.KernelIdeal.Gen.V m c Cert.KernelIdeal.main_v34)
    (fun q x => (A (ix2 q x)).toReal) (fun q x => (B (ix2 q x)).toReal) (fun q x => (C (ix2 q x)).toReal) (fun q x => (D (ix2 q x)).toReal)
    (fun q x => rA _) (fun q x => rB _) (fun q x => rC _) (fun q x => rD _)
    (fun q x => v29_apply m c q A mA x)
    (fun q x => (v30_apply m c q x).trans (congrFun mB _)) (fun q x => (v31_apply m c q x).trans (congrFun mC _))
    (fun q x => (v32_apply m c q x).trans (congrFun mD _))
    (fun H q => by subst mA mB; exact v33_apply m c H q) (fun H q => by subst mA mB mC mD; exact v34_apply m c H q)
  obtain ⟨k6, k7, k8⟩ := key
  refine ⟨?_, ?_, ?_⟩
  · refine Eq.trans ?_ (final6 m c).symm
    funext y
    rw [eq_ix2 y]
    exact (k6 _ _).symm
  · refine Eq.trans ?_ (final7 m c).symm
    funext y
    rw [eq_ix2 y]
    exact (k7 _ _).symm
  · refine Eq.trans ?_ (final8 m c).symm
    funext y
    rw [eq_ix2 y]
    exact (k8 _ _).symm

end Cert.Attn
end
-- ==== Proof.Online.lean ====
module
public import proofs.«01_k».proof.Proof.Reals

/-! The running maximum, the running row sum and the running product of the attention's forward pass, chunk by chunk, over real entries. -/

@[expose] public section
set_option maxRecDepth 16384
noncomputable section
namespace Cert.Forward
open Idealize.ShloMosaic
open Cert.Attn (sum_real div_real bits_bot bits_two bits_log_two log_two_ne max_real)

/-- The number of a key: its place in its chunk of 512. -/
def key (k : Fin 16) (j : Fin 512) : Fin 8192 := ⟨512 * k.val + j.val, by omega⟩

/-- The keys before a chunk. -/
def before (n : ℕ) : Finset (Fin 8192) := Finset.univ.filter (fun r : Fin 8192 => r.val < 512 * n)

theorem before_zero : before 0 = ∅ := Finset.filter_false_of_mem fun r _ => by omega
theorem before_all : before 16 = Finset.univ := Finset.filter_true_of_mem fun r _ => r.isLt

theorem sum_before_succ (g : Fin 8192 → ℝ) (k : Fin 16) :
    ∑ r ∈ before (k.val + 1), g r = (∑ r ∈ before k.val, g r) + ∑ j : Fin 512, g (key k j) := by
  have hinj : Function.Injective (key k) := fun a b h => Fin.ext (by have := congrArg Fin.val h; simp only [key] at this; omega)
  unfold before
  rw [← Finset.sum_image (s := Finset.univ) (g := key k) (f := g) (fun a _ b _ h => hinj h), ← Finset.sum_union]
  · refine Finset.sum_congr (Finset.ext fun r => ?_) fun _ _ => rfl
    simp only [Finset.mem_filter, Finset.mem_univ, true_and, Finset.mem_union, Finset.mem_image]
    constructor
    · intro h
      by_cases h' : r.val < 512 * k.val
      · exact Or.inl h'
      · exact Or.inr ⟨⟨r.val - 512 * k.val, by omega⟩, Fin.ext (by simp only [key]; omega)⟩
    · rintro (h | ⟨j, rfl⟩)
      · omega
      · simp only [key]; omega
  · refine Finset.disjoint_left.mpr fun r h h' => ?_
    simp only [Finset.mem_filter, Finset.mem_univ, true_and, Finset.mem_image] at h h'
    obtain ⟨j, rfl⟩ := h'
    simp only [key] at h
    omega

/-- Two to a real power. -/
def two (x : ℝ) : ℝ := Real.rpow 2 x
theorem two_add (x y : ℝ) : two (x + y) = two x * two y := Real.rpow_add (by norm_num) x y
theorem two_eq (x : ℝ) : two x = Real.exp (x * Real.log 2) := by
  show (2 : ℝ) ^ x = _
  rw [Real.rpow_def_of_pos (by norm_num), mul_comm]

/-- The row sum of the powers, over the keys before a chunk. -/
def rowSum (S : Fin 8192 → ℝ) (n : ℕ) (M : ℝ) : ℝ := ∑ r ∈ before n, two (S r - M)
/-- The product of the powers with the values, over the keys before a chunk. -/
def rowAcc (S V : Fin 8192 → ℝ) (n : ℕ) (M : ℝ) : ℝ := ∑ r ∈ before n, V r * two (S r - M)

theorem rowSum_succ (S : Fin 8192 → ℝ) (k : Fin 16) (M M' : ℝ) :
    rowSum S (k.val + 1) M' = two (M - M') * rowSum S k.val M + ∑ j : Fin 512, two (S (key k j) - M') := by
  unfold rowSum
  rw [sum_before_succ, Finset.mul_sum]
  refine congrArg (fun z => z + _) (Finset.sum_congr rfl fun r _ => ?_)
  rw [← two_add]
  exact congrArg two (by ring)

theorem rowAcc_succ (S V : Fin 8192 → ℝ) (k : Fin 16) (M M' : ℝ) :
    rowAcc S V (k.val + 1) M' = two (M - M') * rowAcc S V k.val M + ∑ j : Fin 512, V (key k j) * two (S (key k j) - M') := by
  unfold rowAcc
  rw [sum_before_succ, Finset.mul_sum]
  refine congrArg (fun z => z + _) (Finset.sum_congr rfl fun r _ => ?_)
  rw [mul_left_comm, ← two_add]
  exact congrArg (fun z => V r * two z) (by ring)

/-- The next running maximum. -/
def nextMax (m : EReal) (s : Fin 512 → EReal) : EReal := max m (Finset.fold max (⊥ : EReal) s Finset.univ)
/-- The next running row sum. -/
def nextSum (m l : EReal) (s : Fin 512 → EReal) : EReal :=
  Ideal.exp2 (m - nextMax m s) * l + ∑ j : Fin 512, Ideal.exp2 (s j - nextMax m s)
/-- The next running product with the values. -/
def nextAcc (m a : EReal) (s v : Fin 512 → EReal) : EReal :=
  Ideal.exp2 (m - nextMax m s) * a + ∑ j : Fin 512, v j * Ideal.exp2 (s j - nextMax m s)

/-- What the running maximum and row sum are before a chunk. -/
def Row (S : Fin 8192 → ℝ) (n : ℕ) (m l : EReal) (M : ℝ) : Prop := m = (M : EReal) ∧ l = ((rowSum S n M : ℝ) : EReal)

theorem next_real (S : Fin 8192 → ℝ) (k : Fin 16) (M : ℝ) (s : Fin 512 → EReal) (hs : ∀ j, s j = ((S (key k j) : ℝ) : EReal)) :
    ∃ M' : ℝ, nextMax (M : EReal) s = (M' : EReal) := by
  obtain ⟨N, hN⟩ := max_real (n := 511) fun j => S (key k j)
  refine ⟨max M N, ?_⟩
  unfold nextMax
  rw [show s = fun j => ((S (key k j) : ℝ) : EReal) from funext hs, hN]
  exact (EReal.coe_strictMono.monotone.map_max).symm

theorem sum_succ (S : Fin 8192 → ℝ) (k : Fin 16) (M M' : ℝ) (l : EReal) (hl : l = ((rowSum S k.val M : ℝ) : EReal)) (s : Fin 512 → EReal)
    (hs : ∀ j, s j = ((S (key k j) : ℝ) : EReal)) (hM : nextMax (M : EReal) s = (M' : EReal)) :
    nextSum (M : EReal) l s = ((rowSum S (k.val + 1) M' : ℝ) : EReal) := by
  unfold nextSum
  rw [hM, hl, rowSum_succ S k M M']
  simp only [hs, ← EReal.coe_sub, Ideal.exp2_coe, ← EReal.coe_mul, sum_real, ← EReal.coe_add]
  rfl

theorem acc_succ (S V : Fin 8192 → ℝ) (k : Fin 16) (M M' : ℝ) (a : EReal) (ha : a = ((rowAcc S V k.val M : ℝ) : EReal)) (s v : Fin 512 → EReal)
    (hs : ∀ j, s j = ((S (key k j) : ℝ) : EReal)) (hv : ∀ j, v j = ((V (key k j) : ℝ) : EReal)) (hM : nextMax (M : EReal) s = (M' : EReal)) :
    nextAcc (M : EReal) a s v = ((rowAcc S V (k.val + 1) M' : ℝ) : EReal) := by
  unfold nextAcc
  rw [hM, ha, rowAcc_succ S V k M M']
  simp only [hs, hv, ← EReal.coe_sub, Ideal.exp2_coe, ← EReal.coe_mul, sum_real, ← EReal.coe_add]
  rfl

/-- The running maximum, row sum and product at a chunk, from the start. -/
def mAt (m0 : EReal) (s : Fin 8192 → EReal) : ℕ → EReal
  | 0 => m0
  | n + 1 => if h : n < 16 then nextMax (mAt m0 s n) (fun j => s (key ⟨n, h⟩ j)) else mAt m0 s n
def lAt (m0 : EReal) (s : Fin 8192 → EReal) : ℕ → EReal
  | 0 => 0
  | n + 1 => if h : n < 16 then nextSum (mAt m0 s n) (lAt m0 s n) (fun j => s (key ⟨n, h⟩ j)) else lAt m0 s n
def aAt (m0 : EReal) (s v : Fin 8192 → EReal) : ℕ → EReal
  | 0 => 0
  | n + 1 => if h : n < 16 then nextAcc (mAt m0 s n) (aAt m0 s v n) (fun j => s (key ⟨n, h⟩ j)) (fun j => v (key ⟨n, h⟩ j)) else aAt m0 s v n

/-- Over real entries the running values are what the row's powers sum to, for some real maximum. -/
theorem at_real (M0 : ℝ) (s : Fin 8192 → EReal) (S : Fin 8192 → ℝ) (hs : ∀ r, s r = ((S r : ℝ) : EReal)) :
    ∀ n, n ≤ 16 → ∃ M : ℝ, mAt (M0 : EReal) s n = (M : EReal) ∧ lAt (M0 : EReal) s n = ((rowSum S n M : ℝ) : EReal)
      ∧ ∀ (v : Fin 8192 → EReal) (V : Fin 8192 → ℝ), (∀ r, v r = ((V r : ℝ) : EReal)) → aAt (M0 : EReal) s v n = ((rowAcc S V n M : ℝ) : EReal) := by
  intro n
  induction n with
  | zero =>
    intro _
    refine ⟨M0, rfl, ?_, fun v V _ => ?_⟩
    · unfold rowSum; rw [before_zero]; rfl
    · unfold rowAcc; rw [before_zero]; rfl
  | succ n ih =>
    intro hn
    have h : n < 16 := hn
    obtain ⟨M, hm, hl, ha⟩ := ih (by omega)
    obtain ⟨M', hM'⟩ := next_real S ⟨n, h⟩ M (fun j => s (key ⟨n, h⟩ j)) (fun j => hs _)
    refine ⟨M', ?_, ?_, fun v V hv => ?_⟩
    · unfold mAt; rw [dif_pos h, hm]; exact hM'
    · unfold lAt; rw [dif_pos h, hm]; exact sum_succ S ⟨n, h⟩ M M' _ hl _ (fun j => hs _) hM'
    · unfold aAt; rw [dif_pos h, hm]; exact acc_succ S V ⟨n, h⟩ M M' _ (ha v V hv) _ _ (fun j => hs _) (fun j => hv _) hM'

/-- After the last chunk: the quotient is the weighted mean, the sum's logarithm with the maximum the row's. -/
theorem row_end (M0 : ℝ) (s v : Fin 8192 → EReal) (e V : Fin 8192 → ℝ) (S : Fin 8192 → ℝ) (T l : ℝ)
    (hs : ∀ r, s r = ((S r / Real.log 2 : ℝ) : EReal)) (hv : ∀ r, v r = ((V r : ℝ) : EReal))
    (he : ∀ r, e r = Real.exp (S r - T)) (hl : l = ∑ r, e r) :
    Ideal.div (aAt (M0 : EReal) s v 16) (lAt (M0 : EReal) s 16) = ((∑ r, e r / l * V r : ℝ) : EReal)
      ∧ mAt (M0 : EReal) s 16 + Ideal.div (Ideal.log (lAt (M0 : EReal) s 16)) (Ideal.log (Ideal.ofBits .f32 0x40000000#32))
        = (((T + Real.log l) / Real.log 2 : ℝ) : EReal) := by
  obtain ⟨M, hm, hL, ha⟩ := at_real M0 s (fun r => S r / Real.log 2) hs 16 le_rfl
  have hl0 : 0 < l := by
    rw [hl]
    exact Finset.sum_pos (fun r _ => by rw [he]; exact Real.exp_pos _) Finset.univ_nonempty
  have h2 : Real.log 2 ≠ 0 := log_two_ne
  obtain ⟨c, hc⟩ : ∃ c : ℝ, c = Real.exp (T - M * Real.log 2) := ⟨_, rfl⟩
  have hc0 : 0 < c := by rw [hc]; exact Real.exp_pos _
  have hp : ∀ r, two (S r / Real.log 2 - M) = c * e r := fun r => by
    rw [two_eq, he, hc, ← Real.exp_add]
    refine congrArg Real.exp ?_
    rw [sub_mul, div_mul_cancel₀ _ h2]
    ring
  have hS : rowSum (fun r => S r / Real.log 2) 16 M = c * l := by
    unfold rowSum
    rw [before_all, hl, Finset.mul_sum]
    exact Finset.sum_congr rfl fun r _ => hp r
  have hA : rowAcc (fun r => S r / Real.log 2) V 16 M = c * ∑ r, e r * V r := by
    unfold rowAcc
    rw [before_all, Finset.mul_sum]
    exact Finset.sum_congr rfl fun r _ => by rw [hp]; ring
  constructor
  · rw [ha v V hv, hL, hA, hS, div_real _ _ (mul_pos hc0 hl0).ne']
    refine congrArg (fun z : ℝ => (z : EReal)) ?_
    rw [mul_div_mul_left _ _ hc0.ne', Finset.sum_div]
    exact Finset.sum_congr rfl fun r _ => by ring
  · rw [hm, hL, hS, bits_log_two, Ideal.log_coe, if_neg (not_le.2 (mul_pos hc0 hl0)), div_real _ _ h2, ← EReal.coe_add]
    refine congrArg (fun z : ℝ => (z : EReal)) ?_
    rw [Real.log_mul hc0.ne' hl0.ne', hc, Real.log_exp]
    field_simp
    ring

end Cert.Forward
end
-- ==== Proof.ForwardPay.lean ====
/- The arithmetic of the attention forward kernel's body, and what one trip over a chunk of 512 keys leaves. -/
module

public import proofs.«01_k».proof.Proof.Online
public import proofs.«01_k».proof.Proof.Gen.Kernel2Ideal.Loops
public import Idealize.ShloMosaic.Lib.Pipeline.ValueKit
public import Idealize.ShloMosaic.Lib.WritesUnit

@[expose] public section

set_option maxRecDepth 16384

noncomputable section

namespace Cert.Kernel2Ideal.Value

open Cert.Kernel2Ideal Cert.Kernel2Ideal.Gen
open Idealize.ShloMosaic Idealize.ShloMosaic.TcCoe Idealize.SL.Sem
open Cert.Forward (key nextMax nextSum nextAcc mAt lAt aAt)
open Cert.Attn (bits_bot)
open Cert.KernelIdeal.Value (ld_at kr0 kr1 sel_slt)

/-- The score of query `q` for a key row. -/
def score (A : FVec Ideal S4096x128 .bf16) (K : Fin 128 → EReal) (q : Fin 4096) : EReal := ∑ l : Fin 128, K l * A (ix2 q l)

variable (A : FVec Ideal S4096x128 .bf16) (M L : FVec Ideal S1x4096 .f32) (W K : Vec Ideal S512x128 .bf16) (q : Fin 4096)

theorem pay4_apply (j : Fin 512) : k0_pay4 A K (ix2 j q) = score A (fun l => K (ix2 j l)) q := by
  pointwise [k0_pay4, score]
theorem pay5_apply : k0_pay5 A M K (ix2 0 q) = nextMax (M (ix2 0 q)) (fun j => score A (fun l => K (ix2 j l)) q) := by
  unfold nextMax
  rw [← bits_bot]
  pointwise [k0_pay5, pay4_apply]
theorem pay6_apply : k0_pay6 A M K (ix2 0 q) = Ideal.exp2 (M (ix2 0 q) - nextMax (M (ix2 0 q)) (fun j => score A (fun l => K (ix2 j l)) q)) := by
  pointwise [k0_pay6, pay5_apply]
  rfl
theorem pay7_apply (j : Fin 512) : k0_pay7 A M K (ix2 j q) =
    Ideal.exp2 (score A (fun l => K (ix2 j l)) q - nextMax (M (ix2 0 q)) (fun j => score A (fun l => K (ix2 j l)) q)) := by
  pointwise [k0_pay7, pay4_apply, pay5_apply]
  rfl
theorem pay8_apply : k0_pay8 A M L K (ix2 0 q) = nextSum (M (ix2 0 q)) (L (ix2 0 q)) (fun j => score A (fun l => K (ix2 j l)) q) := by
  pointwise [k0_pay8, nextSum, pay6_apply, pay7_apply]
theorem pay9_apply (Y : Vec Ideal S1x128x4096 .f32) (l : Fin 128) : k0_pay9 A M W K Y (ix3 0 l q) =
    nextAcc (M (ix2 0 q)) (Y (ix3 0 l q)) (fun j => score A (fun l => K (ix2 j l)) q) (fun j => W (ix2 j l)) := by
  pointwise [k0_pay9, k0_pay3, nextAcc, pay6_apply, pay7_apply]

theorem pay10_apply (j : Fin 512) : k0_pay10 A K (ix2 j q) = score A (fun l => K (ix2 j l)) q := by
  pointwise [k0_pay10, score]
theorem pay11_apply : k0_pay11 A M K (ix2 0 q) = nextMax (M (ix2 0 q)) (fun j => score A (fun l => K (ix2 j l)) q) := by
  unfold nextMax
  rw [← bits_bot]
  pointwise [k0_pay11, pay10_apply]
theorem pay12_apply : k0_pay12 A M K (ix2 0 q) = Ideal.exp2 (M (ix2 0 q) - nextMax (M (ix2 0 q)) (fun j => score A (fun l => K (ix2 j l)) q)) := by
  pointwise [k0_pay12, pay11_apply]
  rfl
theorem pay13_apply (j : Fin 512) : k0_pay13 A M K (ix2 j q) =
    score A (fun l => K (ix2 j l)) q - nextMax (M (ix2 0 q)) (fun j => score A (fun l => K (ix2 j l)) q) := by
  pointwise [k0_pay13, pay10_apply, pay11_apply]
theorem pay20_apply : k0_pay20 L (k0_pay12 A M K) (k0_pay13 A M K) (ix2 0 q) =
    nextSum (M (ix2 0 q)) (L (ix2 0 q)) (fun j => score A (fun l => K (ix2 j l)) q) := by
  pointwise [k0_pay20, k0_pay19, nextSum, pay12_apply, pay13_apply]
  rfl
theorem pay21_apply (Y : Vec Ideal S1x128x4096 .f32) (l : Fin 128) : k0_pay21 (k0_pay3 W) (k0_pay12 A M K) (k0_pay13 A M K) Y (ix3 0 l q) =
    nextAcc (M (ix2 0 q)) (Y (ix3 0 l q)) (fun j => score A (fun l => K (ix2 j l)) q) (fun j => W (ix2 j l)) := by
  pointwise [k0_pay21, k0_pay19, k0_pay3, nextAcc, pay12_apply, pay13_apply]
  rfl

theorem pay14_apply (v : Vec Ideal S4096x128 .bf16) (l : Fin 128) : k0_pay14 v (ix2 q l) = v (ix2 q l) := by
  pointwise [k0_pay14]
theorem pay15_apply (v : Vec Ideal S4096x128 .bf16) (l : Fin 128) : k0_pay15 v (ix2 q l) = v (ix2 q l) := by
  pointwise [k0_pay15]
theorem pay16_apply (y : S2x128x4096.Idx) : k0_pay16 (F := Ideal) y = 0 := by
  pointwise [k0_pay16]
theorem pay17_apply (y : S1x4096.Idx) : k0_pay17 (F := Ideal) y = Ideal.ofBits .f32 0xF149F2CA#32 := by
  pointwise [k0_pay17]
theorem pay18_apply (y : S1x4096.Idx) : k0_pay18 (F := Ideal) y = 0 := by
  pointwise [k0_pay18]

/-- A quotient chosen by the lane's half. -/
def half (l : Fin 128) (x y : EReal) : EReal := if l.val < 64 then x else y

theorem pay22_apply (L0 L1 : FVec Ideal S1x4096 .f32) (Y0 Y1 : Vec Ideal S1x128x4096 .f32) (l : Fin 128) : k0_pay22 L0 L1 Y0 Y1 (ix2 q l) =
    half l (Ideal.div (Y0 (ix3 0 l q)) (L0 (ix2 0 q))) (Ideal.div (Y1 (ix3 0 l q)) (L1 (ix2 0 q))) := by
  pointwise [k0_pay22]
  exact sel_slt l _ _
theorem pay1_apply : k0_pay1 (k0_pay23 M L) (ix3 0 0 q) =
    M (ix2 0 q) + Ideal.div (Ideal.log (L (ix2 0 q))) (Ideal.log (Ideal.ofBits .f32 0x40000000#32)) := by
  pointwise [k0_pay1, k0_pay23]
theorem pay2_apply : k0_pay2 M L (ix3 0 0 q) =
    M (ix2 0 q) + Ideal.div (Ideal.log (L (ix2 0 q))) (Ideal.log (Ideal.ofBits .f32 0x40000000#32)) := by
  pointwise [k0_pay2]

theorem trips_eq : k0_t1_loop.trips = 16 := by decide +kernel

/-- A trip's number among the sixteen chunks. -/
def chunk (k : Fin k0_t1_loop.trips) : Fin 16 := ⟨k.val, lt_of_lt_of_eq k.isLt trips_eq⟩

/-- The scores of query `q` under the first head. -/
def sc0 (A : FVec Ideal S4096x128 .bf16) (X : FVec Ideal S8192x256 .bf16) (q : Fin 4096) (r : Fin 8192) : EReal := score A (kr0 X r) q
/-- The scores of query `q` under the second head. -/
def sc1 (A : FVec Ideal S4096x128 .bf16) (X : FVec Ideal S8192x256 .bf16) (q : Fin 4096) (r : Fin 8192) : EReal := score A (kr1 X r) q
/-- A lane of the values. -/
def vl (X : FVec Ideal S8192x128 .bf16) (l : Fin 128) (r : Fin 8192) : EReal := X (ix2 r l)

end Cert.Kernel2Ideal.Value
-- ==== Proof.ForwardRow.lean ====
module
public import proofs.«01_k».proof.Proof.Online
public import proofs.«01_k».proof.Proof.Main
public import proofs.«01_k».proof.Proof.Gen.Reference2Ideal.Run
public import proofs.«01_k».proof.Proof.Gen.Pre_finite2

/-! The reference's output and rows' logarithms in the attention's forward pass, and their agreement with the chunked recursion over real queries and keys. -/

@[expose] public section
set_option maxRecDepth 16384
noncomputable section

namespace Cert.Reference2Ideal.Value
open Cert.Reference2Ideal Cert.Reference2Ideal.Gen
open Idealize.ShloMosaic Idealize.ShloMosaic.TcCoe Idealize.SL.Sem
open Cert.KernelIdeal.Value (c64 hd64 ln64 hp hh kLs pair_head)
open Cert.ReferenceIdeal.Value (rV rP rV_apply)

variable (A B : FVec Ideal S8192x1024 .f32) (C : FVec Ideal S8192x512 .f32)

/-- The attention's output. -/
def rO : FVec Ideal S8192x512 .f32 :=
  shapeCast _ (transpose S8192x8x64 [2, 0, 1] (Host.dotGeneral dot_S8192x8x64_S8x8192x8192_S8x64x8192_0_2_2_1_1_0 none
    (rV C) (rP A B)) transposes_S8x64x8192_S8192x8x64_2_0_1) shapeCasts_S8192x8x64_S8192x512
/-- The rows' logarithms, pair by pair. -/
def rLs : FVec Ideal S4x2x8192 .f32 := shapeCast _ (kLs A B) shapeCasts_S8x8192_S4x2x8192

theorem rO_apply (q : Fin 8192) (x : Fin 512) : rO A B C (ix2 q x) = ∑ r : Fin 8192, C (ix2 r x) * rP A B (ix3 (hd64 x) q r) := by
  have hx : c64 (hd64 x) (ln64 x) = x := Fin.ext (by show 64 * (x.val / 64) + x.val % 64 = x.val; omega)
  have h : rO A B C (ix2 q x) = ∑ r : Fin 8192, rV C (ix3 r (hd64 x) (ln64 x)) * rP A B (ix3 (hd64 x) q r) := by
    pointwise [rO]; rfl
  rw [h]
  exact Finset.sum_congr rfl fun r _ => by rw [rV_apply, hx]
theorem rLs_apply (H : Fin 8) (q : Fin 8192) : rLs A B (ix3 (hp H) (hh H) q) = kLs A B (ix2 H q) := by
  pointwise [rLs]; rw [pair_head]
end Cert.Reference2Ideal.Value

namespace Cert.Forward
open Idealize.ShloMosaic Idealize.ShloMosaic.TcCoe Idealize.SL.Sem
open Cert.KernelIdeal.Value Cert.ReferenceIdeal.Value
open Cert.Attn (sum_real div_real bits_bot bits_scale bits_log_two log_two_ne max_real bit_and real_of_lt)

/-- The running maximum's start. -/
def low : EReal := Ideal.ofBits .f32 0xF149F2CA#32
/-- A row's quotient, from its scores and a lane of the values. -/
def quot (s v : Fin 8192 → EReal) : EReal := Ideal.div (aAt low s v 16) (lAt low s 16)
/-- A row's logarithm, from its scores. -/
def logr (s : Fin 8192 → EReal) : EReal := mAt low s 16 + Ideal.div (Ideal.log (lAt low s 16)) (Ideal.log (Ideal.ofBits .f32 0x40000000#32))
/-- The scores of query `q` under head `H`, from the argument arrays. -/
def sG (Q K : FVec Ideal Cert.KernelIdeal.S8192x1024 .bf16) (H : Fin 8) (q r : Fin 8192) : EReal := ∑ l : Fin 128, K (ix2 r (c128 H l)) * Q (ix2 q (c128 H l))
/-- A head, from its pair and its place inside it. -/
def pairHead (p : Fin 4) (h : Fin 2) : Fin 8 := ⟨2 * p.val + h.val, by omega⟩

/-- Under the precondition every entry of the queries and keys is a real number. -/
theorem entries (A B : FVec Ideal Cert.Pre_finite2.S8192x1024 .f32) (C : FVec Ideal Cert.Pre_finite2.S8192x512 .f32)
    (h : Cert.Pre_finite2.fn (F := Ideal) A B C = fun _ => 1#1) :
    (∀ i, A i = (((A i).toReal : ℝ) : EReal)) ∧ (∀ i, B i = (((B i).toReal : ℝ) : EReal)) := by
  have h0 := congrFun h (fun a => a.elim0)
  obtain ⟨hA, hB⟩ := bit_and h0
  haveI : Subsingleton Cert.Pre_finite2.S_.Idx := ⟨fun a b => funext fun i => i.elim0⟩
  exact ⟨fun i => real_of_lt _ (Host.reduce_andi_all _ _ _ _ _ hA i), fun i => real_of_lt _ (Host.reduce_andi_all _ _ _ _ _ hB i)⟩

/-- A real factor that is not negative passes through a sum of extended reals. -/
theorem real_mul_sum {ι : Type*} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (EReal.coe_nonneg.2 hc) (EReal.coe_ne_top c), ih]

theorem ext_before_succ (g : Fin 8192 → EReal) (k : Fin 16) :
    ∑ r ∈ before (k.val + 1), g r = (∑ r ∈ before k.val, g r) + ∑ j : Fin 512, g (key k j) := by
  have hinj : Function.Injective (key k) := fun a b h => Fin.ext (by have := congrArg Fin.val h; simp only [key] at this; omega)
  unfold before
  rw [← Finset.sum_image (s := Finset.univ) (g := key k) (f := g) (fun a _ b _ h => hinj h), ← Finset.sum_union]
  · refine Finset.sum_congr (Finset.ext fun r => ?_) fun _ _ => rfl
    simp only [Finset.mem_filter, Finset.mem_univ, true_and, Finset.mem_union, Finset.mem_image]
    constructor
    · intro h
      by_cases h' : r.val < 512 * k.val
      · exact Or.inl h'
      · exact Or.inr ⟨⟨r.val - 512 * k.val, by omega⟩, Fin.ext (by simp only [key]; omega)⟩
    · rintro (h | ⟨j, rfl⟩)
      · omega
      · simp only [key]; omega
  · refine Finset.disjoint_left.mpr fun r h h' => ?_
    simp only [Finset.mem_filter, Finset.mem_univ, true_and, Finset.mem_image] at h h'
    obtain ⟨j, rfl⟩ := h'
    simp only [key] at h
    omega

theorem two_pos (x : ℝ) : 0 < two x := by rw [two_eq]; exact Real.exp_pos _

/-- The product of the powers with values of any size, over the keys before a chunk. -/
def extAcc (S : Fin 8192 → ℝ) (v : Fin 8192 → EReal) (n : ℕ) (M : ℝ) : EReal := ∑ r ∈ before n, v r * ((two (S r - M) : ℝ) : EReal)

theorem ext_succ (S : Fin 8192 → ℝ) (k : Fin 16) (M M' : ℝ) (v : Fin 8192 → EReal) (s : Fin 512 → EReal)
    (hs : ∀ j, s j = ((S (key k j) : ℝ) : EReal)) (hM : nextMax (M : EReal) s = (M' : EReal)) :
    nextAcc (M : EReal) (extAcc S v k.val M) s (fun j => v (key k j)) = extAcc S v (k.val + 1) M' := by
  unfold nextAcc extAcc
  rw [hM, ext_before_succ]
  simp only [hs, ← EReal.coe_sub, Ideal.exp2_coe]
  refine congrArg (fun z : EReal => z + _) ((real_mul_sum (two (M - M')) (two_pos _).le _ _).trans (Finset.sum_congr rfl fun r _ => ?_))
  rw [mul_left_comm, ← EReal.coe_mul, ← two_add]
  exact congrArg (fun z : ℝ => v r * ((two z : ℝ) : EReal)) (by ring)

/-- Over real scores the running values are sums of the powers, for some real maximum, whatever the values are. -/
theorem at_ext (M0 : ℝ) (s : Fin 8192 → EReal) (S : Fin 8192 → ℝ) (hs : ∀ r, s r = ((S r : ℝ) : EReal)) :
    ∀ n, n ≤ 16 → ∃ M : ℝ, mAt (M0 : EReal) s n = (M : EReal) ∧ lAt (M0 : EReal) s n = ((rowSum S n M : ℝ) : EReal)
      ∧ ∀ v : Fin 8192 → EReal, aAt (M0 : EReal) s v n = extAcc S v n M := by
  intro n
  induction n with
  | zero =>
    intro _
    refine ⟨M0, rfl, ?_, fun v => ?_⟩
    · unfold rowSum; rw [before_zero]; rfl
    · unfold extAcc; rw [before_zero]; rfl
  | succ n ih =>
    intro hn
    have h : n < 16 := hn
    obtain ⟨M, hm, hl, ha⟩ := ih (by omega)
    obtain ⟨M', hM'⟩ := next_real S ⟨n, h⟩ M (fun j => s (key ⟨n, h⟩ j)) (fun j => hs _)
    refine ⟨M', ?_, ?_, fun v => ?_⟩
    · unfold mAt; rw [dif_pos h, hm]; exact hM'
    · unfold lAt; rw [dif_pos h, hm]; exact sum_succ S ⟨n, h⟩ M M' _ hl _ (fun j => hs _) hM'
    · unfold aAt; rw [dif_pos h, hm, ha v]; exact ext_succ S ⟨n, h⟩ M M' v _ (fun j => hs _) hM'

/-- After the last chunk the quotient is the weighted mean of the values. -/
theorem quot_end (M0 : ℝ) (s v : Fin 8192 → EReal) (e : Fin 8192 → ℝ) (S : Fin 8192 → ℝ) (T l : ℝ)
    (hs : ∀ r, s r = ((S r / Real.log 2 : ℝ) : EReal)) (he : ∀ r, e r = Real.exp (S r - T)) (hl : l = ∑ r, e r) :
    Ideal.div (aAt (M0 : EReal) s v 16) (lAt (M0 : EReal) s 16) = ∑ r, v r * ((e r / l : ℝ) : EReal) := by
  obtain ⟨M, hm, hL, ha⟩ := at_ext M0 s (fun r => S r / Real.log 2) hs 16 le_rfl
  have hl0 : 0 < l := by
    rw [hl]
    exact Finset.sum_pos (fun r _ => by rw [he]; exact Real.exp_pos _) Finset.univ_nonempty
  have h2 : Real.log 2 ≠ 0 := log_two_ne
  obtain ⟨c, hc⟩ : ∃ c : ℝ, c = Real.exp (T - M * Real.log 2) := ⟨_, rfl⟩
  have hc0 : 0 < c := by rw [hc]; exact Real.exp_pos _
  have hp : ∀ r, two (S r / Real.log 2 - M) = c * e r := fun r => by
    rw [two_eq, he, hc, ← Real.exp_add]
    refine congrArg Real.exp ?_
    rw [sub_mul, div_mul_cancel₀ _ h2]
    ring
  have hS : rowSum (fun r => S r / Real.log 2) 16 M = c * l := by
    unfold rowSum
    rw [before_all, hl, Finset.mul_sum]
    exact Finset.sum_congr rfl fun r _ => hp r
  have hcl : 0 < c * l := mul_pos hc0 hl0
  have hne : ((c * l : ℝ) : EReal) ≠ 0 := fun h => hcl.ne' (EReal.coe_eq_zero.1 h)
  rw [ha v, hL, hS]
  unfold Ideal.div extAcc
  rw [if_neg hne, ← EReal.coe_inv, mul_comm, real_mul_sum _ (inv_nonneg.2 hcl.le), before_all]
  refine Finset.sum_congr rfl fun r _ => ?_
  rw [mul_left_comm, ← EReal.coe_mul, hp]
  refine congrArg (fun z : ℝ => v r * (z : EReal)) ?_
  rw [mul_inv, div_eq_mul_inv]
  field_simp

/-- The running maximum's start is a real number. -/
theorem low_real : ∃ s : ℝ, low = (s : EReal) := by
  unfold low
  simp only [Ideal.ofBits, Ideal.ieee]
  rw [if_neg (by decide), if_neg (by decide)]
  exact ⟨_, rfl⟩

/-- A row's logarithm and quotient, over real queries and keys. -/
theorem row_agree (A B : FVec Ideal Cert.KernelIdeal.S8192x1024 .f32) (C : FVec Ideal Cert.KernelIdeal.S8192x512 .f32)
    (Q K : FVec Ideal Cert.KernelIdeal.S8192x1024 .bf16) (VV : FVec Ideal Cert.KernelIdeal.S8192x512 .bf16)
    (a b : Fin 8192 → Fin 1024 → ℝ)
    (hA : ∀ q x, A (ix2 q x) = ((a q x : ℝ) : EReal)) (hB : ∀ q x, B (ix2 q x) = ((b q x : ℝ) : EReal))
    (hQ : ∀ q x, Q (ix2 q x) = Ideal.div (A (ix2 q x) * Ideal.ofBits .f32 0x3DD105EC#32) (Ideal.log (Ideal.ofBits .f32 0x40000000#32)))
    (hK : ∀ q x, K (ix2 q x) = B (ix2 q x)) (hV : ∀ q x, VV (ix2 q x) = C (ix2 q x))
    (H : Fin 8) (q : Fin 8192) :
    logr (sG Q K H q) = kLs A B (ix2 H q)
      ∧ ∀ x : Fin 512, quot (sG Q K H q) (fun r => VV (ix2 r x)) = ∑ r : Fin 8192, C (ix2 r x) * rP A B (ix3 H q r) := by
  obtain ⟨sc, hsc⟩ := bits_scale
  obtain ⟨low0, hlow⟩ := low_real
  have hkS : ∀ r, kS A B (ix3 H q r) = (((∑ l : Fin 128, a q (c128 H l) * b r (c128 H l)) * sc : ℝ) : EReal) := by
    intro r
    rw [kS_apply]
    simp only [hA, hB, hsc, ← EReal.coe_mul, sum_real]
  have hrS : ∀ r, rS A B (ix3 H q r) = (((∑ l : Fin 128, a q (c128 H l) * b r (c128 H l)) * sc : ℝ) : EReal) := by
    intro r
    rw [rS_apply]
    simp only [hA, hB, hsc, ← EReal.coe_mul, sum_real]
    rw [Finset.sum_mul]
    exact congrArg (fun z : ℝ => (z : EReal)) (Finset.sum_congr rfl fun l _ => by ring)
  have hgS : ∀ r, sG Q K H q r = (((∑ l : Fin 128, a q (c128 H l) * b r (c128 H l)) * sc / Real.log 2 : ℝ) : EReal) := by
    intro r
    unfold sG
    simp only [hQ, hK, hA, hB, hsc, bits_log_two, ← EReal.coe_mul, div_real _ _ log_two_ne, sum_real]
    refine congrArg (fun z : ℝ => (z : EReal)) ?_
    rw [Finset.sum_mul, Finset.sum_div]
    exact Finset.sum_congr rfl fun l _ => by ring
  obtain ⟨s, hs⟩ : ∃ s : Fin 8192 → ℝ, s = fun r => (∑ l : Fin 128, a q (c128 H l) * b r (c128 H l)) * sc := ⟨_, rfl⟩
  have hkS' : ∀ r, kS A B (ix3 H q r) = ((s r : ℝ) : EReal) := fun r => by rw [hkS, hs]
  have hrS' : ∀ r, rS A B (ix3 H q r) = ((s r : ℝ) : EReal) := fun r => by rw [hrS, hs]
  have hgS' : ∀ r, sG Q K H q r = ((s r / Real.log 2 : ℝ) : EReal) := fun r => by rw [hgS, hs]
  obtain ⟨M, hM⟩ := max_real (n := 8191) s
  have hkM : kM A B (ix2 H q) = (M : EReal) := by
    rw [kM_apply, bits_bot]
    simp only [hkS']
    exact hM
  have hrM : rM A B (ix2 H q) = (M : EReal) := by
    rw [rM_apply, bits_bot]
    simp only [hrS']
    exact (max_eq_right bot_le).trans hM
  have hkE : ∀ r, kE A B (ix3 H q r) = ((Real.exp (s r - M) : ℝ) : EReal) := fun r => by
    rw [kE_apply, hkS', hkM, ← EReal.coe_sub, Ideal.exp_coe]
  have hrE : ∀ r, rE A B (ix3 H q r) = ((Real.exp (s r - M) : ℝ) : EReal) := fun r => by
    rw [rE_apply, hrS', hrM, ← EReal.coe_sub, Ideal.exp_coe]
  obtain ⟨e, he⟩ : ∃ e : Fin 8192 → ℝ, e = fun r => Real.exp (s r - M) := ⟨_, rfl⟩
  have hkE' : ∀ r, kE A B (ix3 H q r) = ((e r : ℝ) : EReal) := fun r => by rw [hkE, he]
  have hrE' : ∀ r, rE A B (ix3 H q r) = ((e r : ℝ) : EReal) := fun r => by rw [hrE, he]
  obtain ⟨l, hl⟩ : ∃ l : ℝ, l = ∑ r, e r := ⟨_, rfl⟩
  have hl0 : 0 < l := by
    rw [hl, he]
    exact Finset.sum_pos (fun r _ => Real.exp_pos _) Finset.univ_nonempty
  have hkL : kL A B (ix2 H q) = (l : EReal) := by
    rw [kL_apply]
    simp only [hkE', sum_real, hl]
  have hrL : rL A B (ix3 H q 0) = (l : EReal) := by
    rw [rL_apply]
    simp only [hrE', sum_real, hl]
  have hrP : ∀ r, rP A B (ix3 H q r) = ((e r / l : ℝ) : EReal) := fun r => by
    rw [rP_apply, hrE', hrL, div_real _ _ hl0.ne']
  have hkLs : kLs A B (ix2 H q) = (((M + Real.log l) / Real.log 2 : ℝ) : EReal) := by
    rw [kLs_apply, hkM, hkL, bits_log_two, Ideal.log_coe, if_neg (not_le.2 hl0), ← EReal.coe_add, div_real _ _ log_two_ne]
  refine ⟨?_, fun x => ?_⟩
  · rw [hkLs]
    unfold logr
    rw [hlow]
    exact (row_end low0 (sG Q K H q) (fun _ => 0) e (fun _ => 0) s M l hgS' (fun r => rfl) (fun r => by rw [he]) hl).2
  · unfold quot
    rw [hlow]
    refine (quot_end low0 (sG Q K H q) (fun r => VV (ix2 r x)) e s M l hgS' (fun r => by rw [he]) hl).trans ?_
    exact Finset.sum_congr rfl fun r _ => by rw [hV, hrP]

end Cert.Forward
end
-- ==== Proof.ForwardTrip.lean ====
/- What one trip over a chunk of 512 keys leaves in the carried rows and the running product, and what the loop leaves. -/
module

public import proofs.«01_k».proof.Proof.ForwardPay
public import proofs.«01_k».proof.Proof.ForwardRow
public import Idealize.ShloMosaic.Lib.Pipeline.ValueKit
public import Idealize.ShloMosaic.Lib.WritesUnit

@[expose] public section

set_option maxRecDepth 16384

noncomputable section

namespace Cert.Kernel2Ideal.Value

open Cert.Kernel2Ideal Cert.Kernel2Ideal.Gen
open Idealize.ShloMosaic Idealize.ShloMosaic.TcCoe Idealize.SL.Sem
open Cert.Forward (key nextMax nextSum nextAcc mAt lAt aAt low)
open Cert.Attn (bits_bot)
open Cert.KernelIdeal.Value (ld_at kr0 kr1 sel_slt)

variable (𝒱 : Variants) (c : Dev nD) (bd : Option 𝒱.V) (i : grid0.Coords) (arg2 : Memref sig .tc .vmem S4096x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S4096x128 .f32) (harg5 : arg5.IsWhole) (arg6 : Memref sig .tc .vmem S1x2x4096 .f32) (harg6 : arg6.IsWhole) (arg7 : Memref sig .tc .vmem S2x128x4096 .f32) (harg7 : arg7.IsWhole)
  (v0 v2 : Vec Ideal S4096x128 .bf16) (X3 : BufTy.Contents (Elt Ideal) arg3.view.ty) (X4 : BufTy.Contents (Elt Ideal) arg4.view.ty) (k : Fin k0_t1_loop.trips)
  (acc : FVec Ideal S1x4096 .f32 × FVec Ideal S1x4096 .f32 × FVec Ideal S1x4096 .f32 × FVec Ideal S1x4096 .f32) (f7 : BufTy.Contents (Elt Ideal) arg7.view.ty) (q : Fin 4096)

theorem k_at0 (j : Fin 512) : (fun l : Fin 128 => arg3.view.readAt (Elt Ideal) (Rect.unit (s := S8192x256) (k0_off2 k) S512x128.size (k0_off2_inb k)).toLoadRect X3 (ix2 j l))
    = kr0 (arg3.view.read (Elt Ideal) X3) (key (chunk k) j) := by
  funext l
  refine ld_at arg3.view X3 (k0_off2_eq k) _ _ ?_
  intro a; match a with
  | 0 => rfl
  | 1 => exact (Nat.zero_add _).symm

theorem k_at1 (j : Fin 512) : (fun l : Fin 128 => arg3.view.readAt (Elt Ideal) (Rect.unit (s := S8192x256) (k0_off3 k) S512x128.size (k0_off3_inb k)).toLoadRect X3 (ix2 j l))
    = kr1 (arg3.view.read (Elt Ideal) X3) (key (chunk k) j) := by
  funext l
  refine ld_at arg3.view X3 (k0_off3_eq k) _ _ ?_
  intro a; match a with
  | 0 => rfl
  | 1 => rfl

theorem v_at (l : Fin 128) (j : Fin 512) : arg4.view.readAt (Elt Ideal) (Rect.unit (s := S8192x128) (k0_off1 k) S512x128.size (k0_off1_inb k)).toLoadRect X4 (ix2 j l)
    = vl (arg4.view.read (Elt Ideal) X4) l (key (chunk k) j) := by
  refine ld_at arg4.view X4 (k0_off1_eq k) _ _ ?_
  intro a; match a with
  | 0 => rfl
  | 1 => exact (Nat.zero_add _).symm

theorem s_at0 (j : Fin 512) : score (k0_pay14 v0) (fun l : Fin 128 => arg3.view.readAt (Elt Ideal) (Rect.unit (s := S8192x256) (k0_off2 k) S512x128.size (k0_off2_inb k)).toLoadRect X3 (ix2 j l)) q
    = sc0 (k0_pay14 v0) (arg3.view.read (Elt Ideal) X3) q (key (chunk k) j) := congrArg (fun K => score (k0_pay14 v0) K q) (k_at0 arg3 X3 k j)
theorem s_at1 (j : Fin 512) : score (k0_pay15 v2) (fun l : Fin 128 => arg3.view.readAt (Elt Ideal) (Rect.unit (s := S8192x256) (k0_off3 k) S512x128.size (k0_off3_inb k)).toLoadRect X3 (ix2 j l)) q
    = sc1 (k0_pay15 v2) (arg3.view.read (Elt Ideal) X3) q (key (chunk k) j) := congrArg (fun K => score (k0_pay15 v2) K q) (k_at1 arg3 X3 k j)

theorem tripM0 : (tripR_k0_t1 (F := Ideal) 𝒱 c bd i arg2 harg2 arg3 harg3 arg4 harg4 arg5 harg5 arg6 harg6 arg7 harg7 v0 v2 X3 X4 k acc f7).1 (ix2 0 q)
    = nextMax (acc.1 (ix2 0 q)) (fun j => sc0 (k0_pay14 v0) (arg3.view.read (Elt Ideal) X3) q (key (chunk k) j)) := by
  unfold tripR_k0_t1 trip_k0_t1
  dsimp only
  sl_unfold_words
  refine (pay5_apply _ _ _ q).trans (congrArg (nextMax _) (funext fun j => ?_))
  exact s_at0 arg3 v0 X3 k q j

theorem tripL0 : (tripR_k0_t1 (F := Ideal) 𝒱 c bd i arg2 harg2 arg3 harg3 arg4 harg4 arg5 harg5 arg6 harg6 arg7 harg7 v0 v2 X3 X4 k acc f7).2.1 (ix2 0 q)
    = nextSum (acc.1 (ix2 0 q)) (acc.2.1 (ix2 0 q)) (fun j => sc0 (k0_pay14 v0) (arg3.view.read (Elt Ideal) X3) q (key (chunk k) j)) := by
  unfold tripR_k0_t1 trip_k0_t1
  dsimp only
  sl_unfold_words
  refine (pay8_apply _ _ _ _ q).trans (congrArg (nextSum _ _) (funext fun j => ?_))
  exact s_at0 arg3 v0 X3 k q j

theorem tripM1 : (tripR_k0_t1 (F := Ideal) 𝒱 c bd i arg2 harg2 arg3 harg3 arg4 harg4 arg5 harg5 arg6 harg6 arg7 harg7 v0 v2 X3 X4 k acc f7).2.2.1 (ix2 0 q)
    = nextMax (acc.2.2.1 (ix2 0 q)) (fun j => sc1 (k0_pay15 v2) (arg3.view.read (Elt Ideal) X3) q (key (chunk k) j)) := by
  unfold tripR_k0_t1 trip_k0_t1
  dsimp only
  sl_unfold_words
  refine (pay11_apply _ _ _ q).trans (congrArg (nextMax _) (funext fun j => ?_))
  exact s_at1 arg3 v2 X3 k q j

theorem tripL1 : (tripR_k0_t1 (F := Ideal) 𝒱 c bd i arg2 harg2 arg3 harg3 arg4 harg4 arg5 harg5 arg6 harg6 arg7 harg7 v0 v2 X3 X4 k acc f7).2.2.2 (ix2 0 q)
    = nextSum (acc.2.2.1 (ix2 0 q)) (acc.2.2.2 (ix2 0 q)) (fun j => sc1 (k0_pay15 v2) (arg3.view.read (Elt Ideal) X3) q (key (chunk k) j)) := by
  unfold tripR_k0_t1 trip_k0_t1
  dsimp only
  sl_unfold_words
  refine (pay20_apply _ _ _ _ q).trans (congrArg (nextSum _ _) (funext fun j => ?_))
  exact s_at1 arg3 v2 X3 k q j

theorem tripA0 (l : Fin 128) : arg7.view.read (Elt Ideal) (arg7.view.writes (Elt Ideal) f7 (tripL_k0_t1 (F := Ideal) 𝒱 c bd i arg2 harg2 arg3 harg3 arg4 harg4 arg5 harg5 arg6 harg6 arg7 harg7 v0 v2 X3 X4 k acc f7)) (ix3 0 l q)
    = nextAcc (acc.1 (ix2 0 q)) (arg7.view.read (Elt Ideal) f7 (ix3 0 l q)) (fun j => sc0 (k0_pay14 v0) (arg3.view.read (Elt Ideal) X3) q (key (chunk k) j))
        (fun j => vl (arg4.view.read (Elt Ideal) X4) l (key (chunk k) j)) := by
  unfold tripL_k0_t1 trip_k0_t1
  dsimp only
  sl_unfold_words
  refine (View.read_writes_cons_unit_of_not_mem _ _ _ _ _ _ rfl 0 ?_).trans ?_
  · show 0 < 1 ∨ 1 + 1 ≤ 0; omega
  refine (View.read_writes_cons_unit_of_mem _ _ _ _ _ _ (ix3 0 l q) rfl ?_).trans ?_
  · intro j; match j with
    | 0 => rfl
    | 1 => exact (Nat.zero_add _).symm
    | 2 => exact (Nat.zero_add _).symm
  refine (pay9_apply _ _ _ _ q _ l).trans ?_
  refine (congrArg (fun a => nextAcc _ a _ _) (?_ : _ = arg7.view.read (Elt Ideal) f7 (ix3 0 l q))).trans ?_
  · refine ld_at arg7.view f7 rfl (ix3 0 l q) (ix3 0 l q) ?_
    intro j; match j with
    | 0 => rfl
    | 1 => exact (Nat.zero_add _).symm
    | 2 => exact (Nat.zero_add _).symm
  exact congrArg₂ (nextAcc _ _) (funext fun j => s_at0 arg3 v0 X3 k q j) (funext fun j => v_at arg4 X4 k l j)

theorem tripA1 (l : Fin 128) : arg7.view.read (Elt Ideal) (arg7.view.writes (Elt Ideal) f7 (tripL_k0_t1 (F := Ideal) 𝒱 c bd i arg2 harg2 arg3 harg3 arg4 harg4 arg5 harg5 arg6 harg6 arg7 harg7 v0 v2 X3 X4 k acc f7)) (ix3 1 l q)
    = nextAcc (acc.2.2.1 (ix2 0 q)) (arg7.view.read (Elt Ideal) f7 (ix3 1 l q)) (fun j => sc1 (k0_pay15 v2) (arg3.view.read (Elt Ideal) X3) q (key (chunk k) j))
        (fun j => vl (arg4.view.read (Elt Ideal) X4) l (key (chunk k) j)) := by
  unfold tripL_k0_t1 trip_k0_t1
  dsimp only
  sl_unfold_words
  refine (View.read_writes_cons_unit_of_mem _ _ _ _ _ _ (ix3 0 l q) rfl ?_).trans ?_
  · intro j; match j with
    | 0 => rfl
    | 1 => exact (Nat.zero_add _).symm
    | 2 => exact (Nat.zero_add _).symm
  refine (pay21_apply _ _ _ _ q _ l).trans ?_
  refine (congrArg (fun a => nextAcc _ a _ _) (?_ : _ = arg7.view.read (Elt Ideal) f7 (ix3 1 l q))).trans ?_
  · refine (ld_at arg7.view _ rfl (ix3 0 l q) (ix3 1 l q) ?_).trans ?_
    · intro j; match j with
      | 0 => rfl
      | 1 => exact (Nat.zero_add _).symm
      | 2 => exact (Nat.zero_add _).symm
    rfl
  · exact congrArg₂ (nextAcc _ _) (funext fun j => s_at1 arg3 v2 X3 k q j) (funext fun j => v_at arg4 X4 k l j)

/-- The loop's start. -/
def start : FVec Ideal S1x4096 .f32 × FVec Ideal S1x4096 .f32 × FVec Ideal S1x4096 .f32 × FVec Ideal S1x4096 .f32 :=
  (k0_pay17 (F := Ideal), k0_pay18 (F := Ideal), k0_pay17 (F := Ideal), k0_pay18 (F := Ideal))

theorem loop (hz : ∀ y, arg7.view.read (Elt Ideal) f7 y = 0) : ∀ n, n ≤ k0_t1_loop.trips →
    ((st_k0_t1 (F := Ideal) 𝒱 c bd i arg2 harg2 arg3 harg3 arg4 harg4 arg5 harg5 arg6 harg6 arg7 harg7 v0 v2 X3 X4 f7 start n).1.1 (ix2 0 q) = mAt low (sc0 (k0_pay14 v0) (arg3.view.read (Elt Ideal) X3) q) n
      ∧ (st_k0_t1 (F := Ideal) 𝒱 c bd i arg2 harg2 arg3 harg3 arg4 harg4 arg5 harg5 arg6 harg6 arg7 harg7 v0 v2 X3 X4 f7 start n).1.2.1 (ix2 0 q) = lAt low (sc0 (k0_pay14 v0) (arg3.view.read (Elt Ideal) X3) q) n
      ∧ (st_k0_t1 (F := Ideal) 𝒱 c bd i arg2 harg2 arg3 harg3 arg4 harg4 arg5 harg5 arg6 harg6 arg7 harg7 v0 v2 X3 X4 f7 start n).1.2.2.1 (ix2 0 q) = mAt low (sc1 (k0_pay15 v2) (arg3.view.read (Elt Ideal) X3) q) n
      ∧ (st_k0_t1 (F := Ideal) 𝒱 c bd i arg2 harg2 arg3 harg3 arg4 harg4 arg5 harg5 arg6 harg6 arg7 harg7 v0 v2 X3 X4 f7 start n).1.2.2.2 (ix2 0 q) = lAt low (sc1 (k0_pay15 v2) (arg3.view.read (Elt Ideal) X3) q) n)
      ∧ ∀ l : Fin 128, arg7.view.read (Elt Ideal) (arg7.view.writes (Elt Ideal) f7 (st_k0_t1 (F := Ideal) 𝒱 c bd i arg2 harg2 arg3 harg3 arg4 harg4 arg5 harg5 arg6 harg6 arg7 harg7 v0 v2 X3 X4 f7 start n).2) (ix3 0 l q)
          = aAt low (sc0 (k0_pay14 v0) (arg3.view.read (Elt Ideal) X3) q) (vl (arg4.view.read (Elt Ideal) X4) l) n
        ∧ arg7.view.read (Elt Ideal) (arg7.view.writes (Elt Ideal) f7 (st_k0_t1 (F := Ideal) 𝒱 c bd i arg2 harg2 arg3 harg3 arg4 harg4 arg5 harg5 arg6 harg6 arg7 harg7 v0 v2 X3 X4 f7 start n).2) (ix3 1 l q)
          = aAt low (sc1 (k0_pay15 v2) (arg3.view.read (Elt Ideal) X3) q) (vl (arg4.view.read (Elt Ideal) X4) l) n := by
  intro n
  induction n with
  | zero =>
    intro _
    exact ⟨⟨pay17_apply (ix2 0 q), pay18_apply (ix2 0 q), pay17_apply (ix2 0 q), pay18_apply (ix2 0 q)⟩, fun l => ⟨hz _, hz _⟩⟩
  | succ n ih =>
    intro hn
    obtain ⟨⟨m0, l0, m1, l1⟩, ha⟩ := ih (by omega)
    have h16 : n < 16 := by have := trips_eq; omega
    have e := st_k0_t1_succ (F := Ideal) 𝒱 c bd i arg2 harg2 arg3 harg3 arg4 harg4 arg5 harg5 arg6 harg6 arg7 harg7 v0 v2 X3 X4 f7 start ⟨n, hn⟩
    dsimp only at e
    rw [e]
    refine ⟨⟨?_, ?_, ?_, ?_⟩, fun l => ⟨?_, ?_⟩⟩
    · refine (tripM0 𝒱 c bd i arg2 harg2 arg3 harg3 arg4 harg4 arg5 harg5 arg6 harg6 arg7 harg7 v0 v2 X3 X4 ⟨n, hn⟩ _ _ q).trans ?_
      rw [m0]
      rw [mAt, dif_pos h16]
      rfl
    · refine (tripL0 𝒱 c bd i arg2 harg2 arg3 harg3 arg4 harg4 arg5 harg5 arg6 harg6 arg7 harg7 v0 v2 X3 X4 ⟨n, hn⟩ _ _ q).trans ?_
      rw [m0, l0]
      rw [lAt, dif_pos h16]
      rfl
    · refine (tripM1 𝒱 c bd i arg2 harg2 arg3 harg3 arg4 harg4 arg5 harg5 arg6 harg6 arg7 harg7 v0 v2 X3 X4 ⟨n, hn⟩ _ _ q).trans ?_
      rw [m1]
      rw [mAt, dif_pos h16]
      rfl
    · refine (tripL1 𝒱 c bd i arg2 harg2 arg3 harg3 arg4 harg4 arg5 harg5 arg6 harg6 arg7 harg7 v0 v2 X3 X4 ⟨n, hn⟩ _ _ q).trans ?_
      rw [m1, l1]
      rw [lAt, dif_pos h16]
      rfl
    · rw [View.writes_append]
      refine (tripA0 𝒱 c bd i arg2 harg2 arg3 harg3 arg4 harg4 arg5 harg5 arg6 harg6 arg7 harg7 v0 v2 X3 X4 ⟨n, hn⟩ _ _ q l).trans ?_
      rw [m0, (ha l).1]
      rw [aAt, dif_pos h16]
      rfl
    · rw [View.writes_append]
      refine (tripA1 𝒱 c bd i arg2 harg2 arg3 harg3 arg4 harg4 arg5 harg5 arg6 harg6 arg7 harg7 v0 v2 X3 X4 ⟨n, hn⟩ _ _ q l).trans ?_
      rw [m1, (ha l).2]
      rw [aAt, dif_pos h16]
      rfl

end Cert.Kernel2Ideal.Value
-- ==== Proof.ForwardOut.lean ====
/- The attention forward kernel's two result arrays, entry by entry, from its three argument arrays. -/
module

public import proofs.«01_k».proof.Proof.ForwardTrip
public import proofs.«01_k».proof.Proof.Gen.Kernel2Ideal.Frame
public import Idealize.ShloMosaic.Lib.Pipeline.ValueKit
public import Idealize.ShloMosaic.Lib.WritesUnit

@[expose] public section

set_option maxRecDepth 16384

noncomputable section

namespace Cert.Kernel2Ideal.Value

open Cert.Kernel2Ideal Cert.Kernel2Ideal.Gen
open Idealize.ShloMosaic Idealize.ShloMosaic.TcCoe Idealize.SL.Sem
open Cert.Forward (mAt lAt aAt low quot logr sG pairHead)
open Cert.KernelIdeal.Value (ld_at kr0 kr1 c128 c64 hp hh hd64 ln64)

/-- The first head's lanes of a block of queries. -/
def qh0 (x : Vec Ideal S4096x256 .bf16) : FVec Ideal S4096x128 .bf16 := fun y => x (ix2 (y 0) ⟨(y 1).val, Nat.lt_trans (y 1).isLt (by decide)⟩)
/-- The second head's lanes of a block of queries. -/
def qh1 (x : Vec Ideal S4096x256 .bf16) : FVec Ideal S4096x128 .bf16 := fun y => x (ix2 (y 0) ⟨128 + (y 1).val, Nat.add_lt_add_left (y 1).isLt 128⟩)

variable (c : Dev nD) (i : grid0.Coords) (arg2 : Memref sig .tc .vmem S4096x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S4096x128 .f32) (harg5 : arg5.IsWhole) (arg6 : Memref sig .tc .vmem S1x2x4096 .f32) (harg6 : arg6.IsWhole) (arg7 : Memref sig .tc .vmem S2x128x4096 .f32) (harg7 : arg7.IsWhole)
  (x0 : Vec Ideal S4096x256 .bf16) (x1 : Vec Ideal S8192x256 .bf16) (x2 : Vec Ideal S8192x128 .bf16)

theorem eq1 : k0_pay14 (F := Ideal) (arg2.view.readAt (Elt Ideal) (Rect.unit (s := S4096x256) ![0, 0] S4096x128.size inb_S4096x256_S4096x128_0_0).toLoadRect (harg2.unread x0)) = qh0 x0 := by
  funext y
  obtain ⟨a, b, rfl⟩ : ∃ (a : Fin 4096) (b : Fin 128), y = ix2 a b := ⟨_, _, eq_ix2 y⟩
  refine (pay14_apply a _ b).trans ((ld_at arg2.view _ rfl _ (ix2 a ⟨(b : Fin 128).val, by have := (b : Fin 128).isLt; omega⟩) ?_).trans (congrFun (harg2.read_unread x0) _))
  intro j; match j with
  | 0 => show (a : Fin 4096).val = 0 + (a : Fin 4096).val; omega
  | 1 => show (b : Fin 128).val = 0 + (b : Fin 128).val; omega

theorem eq3 : k0_pay15 (F := Ideal) (arg2.view.readAt (Elt Ideal) (Rect.unit (s := S4096x256) ![0, 128] S4096x128.size inb_S4096x256_S4096x128_0_128).toLoadRect (harg2.unread x0)) = qh1 x0 := by
  funext y
  obtain ⟨a, b, rfl⟩ : ∃ (a : Fin 4096) (b : Fin 128), y = ix2 a b := ⟨_, _, eq_ix2 y⟩
  refine (pay15_apply a _ b).trans ((ld_at arg2.view _ rfl _ (ix2 a ⟨128 + (b : Fin 128).val, by have := (b : Fin 128).isLt; omega⟩) ?_).trans (congrFun (harg2.read_unread x0) _))
  intro j; match j with
  | 0 => show (a : Fin 4096).val = 0 + (a : Fin 4096).val; omega
  | 1 => rfl

theorem zero7 (y : S2x128x4096.Idx) : arg7.view.read (Elt Ideal) (arg7.view.writes (Elt Ideal) arg7.view.junk
    [⟨Rect.unit (s := S2x128x4096) ![0, 0, 0] S2x128x4096.size inb_S2x128x4096_S2x128x4096_0_0_0, k0_pay16 (F := Ideal)⟩]) y = 0 := by
  refine (View.read_writes_cons_unit_of_mem _ _ _ _ _ _ y rfl ?_).trans (pay16_apply _)
  intro j; match j with
  | 0 => exact (Nat.zero_add _).symm
  | 1 => exact (Nat.zero_add _).symm
  | 2 => exact (Nat.zero_add _).symm

theorem out3 (q : Fin 4096) (l : Fin 128) :
    out0_A_3 c i arg2 harg2 arg3 harg3 arg4 harg4 arg5 harg5 arg6 harg6 arg7 harg7 x0 x1 x2 (ix2 q l) = half l (quot (sc0 (qh0 x0) x1 q) (vl x2 l)) (quot (sc1 (qh1 x0) x1 q) (vl x2 l)) := by
  obtain ⟨⟨m0, l0, m1, l1⟩, ha⟩ := loop Variants.none c none i arg2 harg2 arg3 harg3 arg4 harg4 arg5 harg5 arg6 harg6 arg7 harg7
      (arg2.view.readAt (Elt Ideal) (Rect.unit (s := S4096x256) ![0, 0] S4096x128.size inb_S4096x256_S4096x128_0_0).toLoadRect (harg2.unread x0))
      (arg2.view.readAt (Elt Ideal) (Rect.unit (s := S4096x256) ![0, 128] S4096x128.size inb_S4096x256_S4096x128_0_128).toLoadRect (harg2.unread x0))
      (harg3.unread x1) (harg4.unread x2) _ q (zero7 arg7) _ le_rfl
  rw [harg3.read_unread] at m0 l0 m1 l1
  rw [eq1] at m0 l0
  rw [eq3] at m1 l1
  unfold out0_A_3 kernelRun0_A
  dsimp only
  sl_unfold_words
  refine (View.read_writes_cons_unit_of_mem _ _ _ _ _ _ (ix2 q l) rfl ?_).trans ?_
  · intro j; match j with
    | 0 => exact (Nat.zero_add _).symm
    | 1 => exact (Nat.zero_add _).symm
  refine (pay22_apply q _ _ _ _ l).trans ?_
  refine congrArg₂ (half l) (congrArg₂ Ideal.div ?_ ?_) (congrArg₂ Ideal.div ?_ ?_)
  · rw [View.readCov]
    refine (ld_at arg7.view _ rfl (ix3 0 l q) (ix3 0 l q) ?_).trans ?_
    · intro j; match j with
      | 0 => rfl
      | 1 => exact (Nat.zero_add _).symm
      | 2 => exact (Nat.zero_add _).symm
    rw [View.writes_append]
    refine (ha l).1.trans ?_
    rw [eq1, harg3.read_unread, harg4.read_unread, trips_eq]
  · refine l0.trans ?_
    rw [trips_eq]
  · rw [View.readCov]
    refine (ld_at arg7.view _ rfl (ix3 0 l q) (ix3 1 l q) ?_).trans ?_
    · intro j; match j with
      | 0 => rfl
      | 1 => exact (Nat.zero_add _).symm
      | 2 => exact (Nat.zero_add _).symm
    rw [View.writes_append]
    refine (ha l).2.trans ?_
    rw [eq3, harg3.read_unread, harg4.read_unread, trips_eq]
  · refine l1.trans ?_
    rw [trips_eq]

/-- Two rows' logarithms, one per head of the pair. -/
def twoRows (h : Fin 2) (x y : EReal) : EReal := if h = 0 then x else y

theorem out4 (h : Fin 2) (q : Fin 4096) :
    out0_A_4 c i arg2 harg2 arg3 harg3 arg4 harg4 arg5 harg5 arg6 harg6 arg7 harg7 x0 x1 x2 (ix3 0 h q) = twoRows h (logr (sc0 (qh0 x0) x1 q)) (logr (sc1 (qh1 x0) x1 q)) := by
  obtain ⟨⟨m0, l0, m1, l1⟩, ha⟩ := loop Variants.none c none i arg2 harg2 arg3 harg3 arg4 harg4 arg5 harg5 arg6 harg6 arg7 harg7
      (arg2.view.readAt (Elt Ideal) (Rect.unit (s := S4096x256) ![0, 0] S4096x128.size inb_S4096x256_S4096x128_0_0).toLoadRect (harg2.unread x0))
      (arg2.view.readAt (Elt Ideal) (Rect.unit (s := S4096x256) ![0, 128] S4096x128.size inb_S4096x256_S4096x128_0_128).toLoadRect (harg2.unread x0))
      (harg3.unread x1) (harg4.unread x2) _ q (zero7 arg7) _ le_rfl
  rw [harg3.read_unread] at m0 l0 m1 l1
  rw [eq1, trips_eq] at m0 l0
  rw [eq3, trips_eq] at m1 l1
  unfold out0_A_4 kernelRun0_A
  dsimp only
  sl_unfold_words
  obtain rfl | rfl : h = 0 ∨ h = 1 := by omega
  · refine (View.read_writes_cons_unit_of_not_mem _ _ _ _ _ _ rfl 1 ?_).trans ?_
    · show 0 < 1 ∨ 1 + 1 ≤ 0; omega
    refine (View.read_writes_cons_unit_of_mem _ _ _ _ _ _ (ix3 0 0 q) rfl ?_).trans ?_
    · intro j; match j with
      | 0 => rfl
      | 1 => rfl
      | 2 => exact (Nat.zero_add _).symm
    refine (pay1_apply _ _ q).trans ?_
    unfold twoRows logr
    rw [if_pos rfl]
    rw [← m0, ← l0]
    rfl
  · refine (View.read_writes_cons_unit_of_mem _ _ _ _ _ _ (ix3 0 0 q) rfl ?_).trans ?_
    · intro j; match j with
      | 0 => rfl
      | 1 => rfl
      | 2 => exact (Nat.zero_add _).symm
    refine (pay2_apply _ _ q).trans ?_
    unfold twoRows logr
    rw [if_neg (by decide)]
    rw [← m1, ← l1]
    rfl

end Cert.Kernel2Ideal.Value
-- ==== Proof.ForwardArr.lean ====
/- The attention forward kernel's two result arrays as functions of its three argument arrays. -/
module

public import proofs.«01_k».proof.Proof.ForwardOut
public import proofs.«01_k».proof.Proof.Gen.Kernel2Ideal.Frame

@[expose] public section

set_option maxRecDepth 16384

noncomputable section

namespace Cert.Kernel2Ideal.Value

open Cert.Kernel2Ideal Cert.Kernel2Ideal.Gen
open Idealize.ShloMosaic Idealize.ShloMosaic.TcCoe Idealize.SL.Sem
open Cert.Forward (quot logr sG pairHead)
open Cert.KernelIdeal.Value (kr0 kr1 c128 hd64)

variable (m : (ℓ : Loc nD τ sig) → Buf (Elt Ideal) ℓ) (c : Dev nD)

theorem idx : ∀ t : Fin cfg0.N, win0_0.index t = ![t.val % 2, t.val / 2] ∧ win0_1.index t = ![0, t.val / 2] ∧ win0_2.index t = ![0, t.val / 2]
    ∧ win0_3.index t = ![t.val % 2, t.val / 2] ∧ win0_4.index t = ![t.val / 2, 0, t.val % 2] :=
  (by decide +kernel : ∀ t : Fin grid0.N, _)

theorem N8 : cfg0.N = 8 := by decide +kernel

theorem blk0 (t : Fin cfg0.N) (q : Fin 4096) (l : Fin 256) :
    iblk m c 0 t (ix2 q l) = V m c main_v5 (ix2 ⟨4096 * (t.val % 2) + q.val, by omega⟩ ⟨256 * (t.val / 2) + l.val, by have := t.isLt; have := N8; omega⟩) := by
  blk_point [iblk, idx t]
theorem blk1 (t : Fin cfg0.N) (r : Fin 8192) (l : Fin 256) :
    iblk m c 1 t (ix2 r l) = V m c main_v6 (ix2 r ⟨256 * (t.val / 2) + l.val, by have := t.isLt; have := N8; omega⟩) := by
  blk_point [iblk, idx t]
theorem blk2 (t : Fin cfg0.N) (r : Fin 8192) (l : Fin 128) :
    iblk m c 2 t (ix2 r l) = V m c main_v7 (ix2 r ⟨128 * (t.val / 2) + l.val, by have := t.isLt; have := N8; omega⟩) := by
  blk_point [iblk, idx t]

/-- The pair that point `t` works on. -/
def pr (t : Fin cfg0.N) : Fin 4 := ⟨t.val / 2, by have := t.isLt; have := N8; omega⟩
/-- A head of the pair that point `t` works on. -/
def hd (t : Fin cfg0.N) (h : Fin 2) : Fin 8 := pairHead (pr t) h
/-- Query `q` of point `t`'s block, among all. -/
def gq (t : Fin cfg0.N) (q : Fin 4096) : Fin 8192 := ⟨4096 * (t.val % 2) + q.val, by omega⟩
/-- Lane `l` of point `t`'s block of values, among all. -/
def gl (t : Fin cfg0.N) (l : Fin 128) : Fin 512 := ⟨128 * (t.val / 2) + l.val, by have := t.isLt; have := N8; omega⟩

theorem q0 (t : Fin cfg0.N) (q : Fin 4096) (l : Fin 128) : qh0 (iblk m c 0 t) (ix2 q l) = V m c main_v5 (ix2 (gq t q) (c128 (hd t 0) l)) := by
  refine (blk0 m c t q ⟨l.val, by omega⟩).trans (congrArg (fun z => V m c main_v5 (ix2 _ z)) (Fin.ext ?_))
  show 256 * (t.val / 2) + l.val = 128 * (2 * (t.val / 2) + 0) + l.val; omega
theorem q1 (t : Fin cfg0.N) (q : Fin 4096) (l : Fin 128) : qh1 (iblk m c 0 t) (ix2 q l) = V m c main_v5 (ix2 (gq t q) (c128 (hd t 1) l)) := by
  refine (blk0 m c t q ⟨128 + l.val, by omega⟩).trans (congrArg (fun z => V m c main_v5 (ix2 _ z)) (Fin.ext ?_))
  show 256 * (t.val / 2) + (128 + l.val) = 128 * (2 * (t.val / 2) + 1) + l.val; omega
theorem k0 (t : Fin cfg0.N) (r : Fin 8192) (l : Fin 128) : kr0 (iblk m c 1 t) r l = V m c main_v6 (ix2 r (c128 (hd t 0) l)) := by
  refine (blk1 m c t r ⟨l.val, by omega⟩).trans (congrArg (fun z => V m c main_v6 (ix2 _ z)) (Fin.ext ?_))
  show 256 * (t.val / 2) + l.val = 128 * (2 * (t.val / 2) + 0) + l.val; omega
theorem k1 (t : Fin cfg0.N) (r : Fin 8192) (l : Fin 128) : kr1 (iblk m c 1 t) r l = V m c main_v6 (ix2 r (c128 (hd t 1) l)) := by
  refine (blk1 m c t r ⟨128 + l.val, by omega⟩).trans (congrArg (fun z => V m c main_v6 (ix2 _ z)) (Fin.ext ?_))
  show 256 * (t.val / 2) + (128 + l.val) = 128 * (2 * (t.val / 2) + 1) + l.val; omega

theorem s0 (t : Fin cfg0.N) (q : Fin 4096) : sc0 (qh0 (iblk m c 0 t)) (iblk m c 1 t) q = sG (V m c main_v5) (V m c main_v6) (hd t 0) (gq t q) :=
  funext fun r => by
    unfold sc0 score sG
    exact Finset.sum_congr rfl fun l _ => congrArg₂ (fun a b : EReal => a * b) (k0 m c t r l) (q0 m c t q l)
theorem s1 (t : Fin cfg0.N) (q : Fin 4096) : sc1 (qh1 (iblk m c 0 t)) (iblk m c 1 t) q = sG (V m c main_v5) (V m c main_v6) (hd t 1) (gq t q) :=
  funext fun r => by
    unfold sc1 score sG
    exact Finset.sum_congr rfl fun l _ => congrArg₂ (fun a b : EReal => a * b) (k1 m c t r l) (q1 m c t q l)
theorem vs (t : Fin cfg0.N) (l : Fin 128) : vl (iblk m c 2 t) l = fun r => V m c main_v7 (ix2 r (gl t l)) :=
  funext fun r => blk2 m c t r l

theorem after3 (t : Fin cfg0.N) (q : Fin 4096) (l : Fin 128) : (outsAt0 m c t).1 (ix2 q l)
    = quot (sG (V m c main_v5) (V m c main_v6) (hd64 (gl t l)) (gq t q)) (fun r => V m c main_v7 (ix2 r (gl t l))) := by
  unfold outsAt0
  dsimp only
  refine (out3 _ _ _ _ _ _ _ _ _ _ _ _ _ _ _ _ _ q l).trans ?_
  rw [s0, s1, vs]
  unfold half
  by_cases hl : l.val < 64
  · rw [if_pos hl]
    have e : hd64 (gl t l) = hd t 0 := Fin.ext (by show (128 * (t.val / 2) + l.val) / 64 = 2 * (t.val / 2) + 0; omega)
    rw [e]
  · rw [if_neg hl]
    have e : hd64 (gl t l) = hd t 1 := Fin.ext (by show (128 * (t.val / 2) + l.val) / 64 = 2 * (t.val / 2) + 1; omega)
    rw [e]

theorem after4 (t : Fin cfg0.N) (h : Fin 2) (q : Fin 4096) : (outsAt0 m c t).2 (ix3 0 h q)
    = logr (sG (V m c main_v5) (V m c main_v6) (hd t h) (gq t q)) := by
  unfold outsAt0
  dsimp only
  refine (out4 _ _ _ _ _ _ _ _ _ _ _ _ _ _ _ _ _ h q).trans ?_
  rw [s0, s1]
  unfold twoRows
  obtain rfl | rfl : h = 0 ∨ h = 1 := by omega
  · exact if_pos rfl
  · exact if_neg (by decide)

/-- The kernel's output. -/
theorem final3 : (dats m 0 c).arrAt 3 cfg0.N = fun y : S8192x512.Idx =>
    quot (sG (V m c main_v5) (V m c main_v6) (hd64 (y 1)) (y 0)) (fun r => V m c main_v7 (ix2 r (y 1))) := by
  refine (dats m 0 c).arrAt_eq_of_covers 3 _ (by decide +kernel) fun t hf y => ?_
  blk_simp
  rw [after0_3]
  obtain ⟨q, l, rfl⟩ : ∃ (q : Fin 4096) (l : Fin 128), y = ix2 q l := ⟨_, _, eq_ix2 y⟩
  have e0 : (win0_3.blk t).view.emb (ix2 q l) 0 = gq t q := Fin.ext (by unfold gq; blk_simp [idx t]; show t.val % 2 * 4096 + q.val = 4096 * (t.val % 2) + q.val; omega)
  have e1 : (win0_3.blk t).view.emb (ix2 q l) 1 = gl t l := Fin.ext (by unfold gl; blk_simp [idx t]; show t.val / 2 * 128 + l.val = 128 * (t.val / 2) + l.val; omega)
  rw [e0, e1]
  exact after3 m c t q l

/-- The kernel's rows' logarithms. -/
theorem final4 : (dats m 0 c).arrAt 4 cfg0.N = fun y : S4x2x8192.Idx =>
    logr (sG (V m c main_v5) (V m c main_v6) (pairHead (y 0) (y 1)) (y 2)) := by
  refine (dats m 0 c).arrAt_eq_of_covers 4 _ (by decide +kernel) fun t hf y => ?_
  blk_simp
  rw [after0_4]
  obtain ⟨u, h, q, rfl⟩ : ∃ (u : Fin 1) (h : Fin 2) (q : Fin 4096), y = ix3 u h q := ⟨_, _, _, eq_ix3 y⟩
  obtain rfl : u = 0 := Subsingleton.elim _ _
  have e0 : (win0_4.blk t).view.emb (ix3 0 h q) 0 = pr t := Fin.ext (by unfold pr; blk_simp [idx t]; show t.val / 2 + 0 = t.val / 2; omega)
  have e1 : (win0_4.blk t).view.emb (ix3 0 h q) 1 = h := Fin.ext (by blk_simp [idx t])
  have e2 : (win0_4.blk t).view.emb (ix3 0 h q) 2 = gq t q := Fin.ext (by unfold gq; blk_simp [idx t]; show t.val % 2 * 4096 + q.val = 4096 * (t.val % 2) + q.val; omega)
  rw [e0, e1, e2]
  exact after4 m c t h q

variable (q : Fin 8192)

theorem v5_apply (A : FVec Ideal S8192x1024 .f32) (hA : m ((c : Thread nD τ).loc main_arg0) = A) (x : Fin 1024) : V m c main_v5 (ix2 q x) =
    Ideal.div (A (ix2 q x) * Ideal.ofBits .f32 0x3DD105EC#32) (Ideal.log (Ideal.ofBits .f32 0x40000000#32)) := by
  subst hA
  entry_read
  pointwise
theorem v6_apply (x : Fin 1024) : V m c main_v6 (ix2 q x) = m ((c : Thread nD τ).loc main_arg1) (ix2 q x) := by
  entry_read
  pointwise
theorem v7_apply (x : Fin 512) : V m c main_v7 (ix2 q x) = m ((c : Thread nD τ).loc main_arg2) (ix2 q x) := by
  entry_read
  pointwise

end Cert.Kernel2Ideal.Value
-- ==== Proof.Forward.lean ====
module
public import proofs.«01_k».proof.Proof.ForwardArr

/-! The attention's forward pass: the kernel's two results are the reference's, over queries and keys whose every entry is a real number. -/

@[expose] public section
set_option maxRecDepth 16384
noncomputable section

namespace Cert.Forward
open Idealize.ShloMosaic Idealize.ShloMosaic.TcCoe Idealize.SL.Sem
open Cert.KernelIdeal.Value (hp hh hd64)

variable (m : (ℓ : Loc Cert.Kernel2Ideal.nD Cert.Kernel2Ideal.τ Cert.Kernel2Ideal.sig) → Buf (Elt Ideal) ℓ) (c : Dev Cert.Kernel2Ideal.nD)

/-- The kernel's two result arrays are the reference's output and rows' logarithms of its arguments. -/
theorem results (A B : FVec Ideal Cert.Kernel2Ideal.S8192x1024 .f32) (C : FVec Ideal Cert.Kernel2Ideal.S8192x512 .f32)
    (mA : m ((c.tc : Thread Cert.Kernel2Ideal.nD Cert.Kernel2Ideal.τ).loc Cert.Kernel2Ideal.main_arg0) = A)
    (mB : m ((c.tc : Thread Cert.Kernel2Ideal.nD Cert.Kernel2Ideal.τ).loc Cert.Kernel2Ideal.main_arg1) = B)
    (mC : m ((c.tc : Thread Cert.Kernel2Ideal.nD Cert.Kernel2Ideal.τ).loc Cert.Kernel2Ideal.main_arg2) = C)
    (h : Cert.Pre_finite2.fn (F := Ideal) A B C = fun _ => 1#1) :
    Cert.Reference2Ideal.Value.rO A B C = (Cert.Kernel2Ideal.Gen.dats m 0 c).arrAt 3 Cert.Kernel2Ideal.cfg0.N
      ∧ Cert.Reference2Ideal.Value.rLs A B = (Cert.Kernel2Ideal.Gen.dats m 0 c).arrAt 4 Cert.Kernel2Ideal.cfg0.N := by
  obtain ⟨rA, rB⟩ := entries A B C h
  have key := row_agree A B C (Cert.Kernel2Ideal.Gen.V m c Cert.Kernel2Ideal.main_v5) (Cert.Kernel2Ideal.Gen.V m c Cert.Kernel2Ideal.main_v6)
    (Cert.Kernel2Ideal.Gen.V m c Cert.Kernel2Ideal.main_v7)
    (fun q x => (A (ix2 q x)).toReal) (fun q x => (B (ix2 q x)).toReal)
    (fun q x => rA _) (fun q x => rB _)
    (fun q x => Cert.Kernel2Ideal.Value.v5_apply m c q A mA x)
    (fun q x => (Cert.Kernel2Ideal.Value.v6_apply m c q x).trans (congrFun mB _))
    (fun q x => (Cert.Kernel2Ideal.Value.v7_apply m c q x).trans (congrFun mC _))
  refine ⟨?_, ?_⟩
  · refine Eq.trans ?_ (Cert.Kernel2Ideal.Value.final3 m c).symm
    funext y
    obtain ⟨q, x, rfl⟩ : ∃ (q : Fin 8192) (x : Fin 512), y = ix2 q x := ⟨_, _, eq_ix2 y⟩
    exact (Cert.Reference2Ideal.Value.rO_apply A B C q x).trans ((key (hd64 x) q).2 x).symm
  · refine Eq.trans ?_ (Cert.Kernel2Ideal.Value.final4 m c).symm
    funext y
    obtain ⟨p, h, q, rfl⟩ : ∃ (p : Fin 4) (h : Fin 2) (q : Fin 8192), y = ix3 p h q := ⟨_, _, _, eq_ix3 y⟩
    have e0 : hp (pairHead p h) = p := Fin.ext (by show (2 * p.val + h.val) / 2 = p.val; omega)
    have e1 : hh (pairHead p h) = h := Fin.ext (by show (2 * p.val + h.val) % 2 = h.val; omega)
    have e := Cert.Reference2Ideal.Value.rLs_apply A B (pairHead p h) q
    rw [e0, e1] at e
    exact e.trans (key (pairHead p h) q).1.symm

end Cert.Forward
end
-- ==== Proof.GradUp.lean ====
/- The gradient of the up projection's weights: what the kernel leaves in its result array, entry by entry. -/
module

public import proofs.«01_k».proof.Proof.Trip
public import proofs.«01_k».proof.Proof.Gen.Kernel4Ideal.Frame

@[expose] public section

set_option maxRecDepth 16384

noncomputable section

namespace Cert.Kernel4Ideal.Value

open Cert.Kernel4Ideal Cert.Kernel4Ideal.Gen
open Idealize.ShloMosaic Idealize.ShloMosaic.TcCoe Idealize.SL.Sem
open Cert.KernelIdeal.Value (ld_at)

theorem pay1_apply (a : Fin 1024) (b : Fin 1408) : k0_pay1 (F := Ideal) (ix2 a b) = 0 := by
  pointwise [k0_pay1]

theorem pay2_apply (v3 : Vec Ideal S1024x1408 .f32) (v4 : Vec Ideal S2048x1024 .bf16) (v6 : Vec Ideal S2048x1408 .bf16) (a : Fin 1024) (b : Fin 1408) :
    k0_pay2 v3 v4 v6 (ix2 a b) = v3 (ix2 a b) + ∑ r : Fin 2048, v4 (ix2 r a) * v6 (ix2 r b) := by
  pointwise [k0_pay2]

theorem pay3_apply (v16 : Vec Ideal S1024x1408 .f32) (a : Fin 1024) (b : Fin 1408) : k0_pay3 v16 (ix3 0 a b) = v16 (ix2 a b) := by
  pointwise [k0_pay3]

theorem ix2_at {n0 n1 : ℕ} (a : Fin n0) (b : Fin n1) (j : Fin 2) : ((ix2 a b : (⟨2, ![n0, n1]⟩ : Shape).Idx) j).val = (![0, 0] : Fin 2 → ℕ) j + ((ix2 a b : (⟨2, ![n0, n1]⟩ : Shape).Idx) j).val := by
  match j with
  | 0 => exact (Nat.zero_add _).symm
  | 1 => exact (Nat.zero_add _).symm

variable (c : Dev nD) (i : grid0.Coords) (arg3 : Memref sig .tc .vmem S2048x1024 .bf16) (harg3 : arg3.IsWhole) (arg4 : Memref sig .tc .vmem S2048x1408 .bf16) (harg4 : arg4.IsWhole) (arg5 : Memref sig .tc .vmem S1x1024x1408 .bf16) (harg5 : arg5.IsWhole) (arg6 : Memref sig .tc .vmem S1024x1408 .f32) (harg6 : arg6.IsWhole)
  (x0 : Vec Ideal S2048x1024 .bf16) (x1 : Vec Ideal S2048x1408 .bf16) (xs0 : Vec Ideal S1024x1408 .f32)

/-- The step's sum read from the two whole blocks. -/
theorem terms (a : Fin 1024) (b : Fin 1408) :
    (∑ r : Fin 2048, arg3.view.readAt (Elt Ideal) (Rect.unit (s := S2048x1024) ![0, 0] S2048x1024.size inb_S2048x1024_S2048x1024_0_0).toLoadRect (harg3.unread x0) (ix2 r a)
        * arg4.view.readAt (Elt Ideal) (Rect.unit (s := S2048x1408) ![0, 0] S2048x1408.size inb_S2048x1408_S2048x1408_0_0).toLoadRect (harg4.unread x1) (ix2 r b))
      = ∑ r : Fin 2048, x0 (ix2 r a) * x1 (ix2 r b) :=
  Finset.sum_congr rfl fun r _ => congrArg₂ (fun p q : EReal => p * q)
    ((ld_at arg3.view _ rfl _ (ix2 r a) (ix2_at r a)).trans (congrFun (harg3.read_unread x0) _))
    ((ld_at arg4.view _ rfl _ (ix2 r b) (ix2_at r b)).trans (congrFun (harg4.read_unread x1) _))

theorem soutA (hc0 : cond0_0 i) (hc1 : ¬cond0_1 i) (a : Fin 1024) (b : Fin 1408) :
    sout0_A_0 c i arg3 harg3 arg4 harg4 arg5 harg5 arg6 harg6 hc0 hc1 x0 x1 (ix2 a b) = 0 + ∑ r : Fin 2048, x0 (ix2 r a) * x1 (ix2 r b) := by
  unfold sout0_A_0 kernelRun0_A
  dsimp only
  sl_unfold_words
  refine (View.read_writes_cons_unit_of_mem _ _ _ _ _ _ (ix2 a b) rfl (ix2_at a b)).trans ?_
  refine (pay2_apply _ _ _ a b).trans (congrArg₂ (fun p q : EReal => p + q) ?_ (terms arg3 harg3 arg4 harg4 x0 x1 a b))
  rw [View.readCov_cons_toLoadRect]
  exact pay1_apply a b

theorem soutB (hc0 : ¬cond0_0 i) (hc1 : ¬cond0_1 i) (a : Fin 1024) (b : Fin 1408) :
    sout0_B_0 c i arg3 harg3 arg4 harg4 arg5 harg5 arg6 harg6 hc0 hc1 x0 x1 xs0 (ix2 a b) = xs0 (ix2 a b) + ∑ r : Fin 2048, x0 (ix2 r a) * x1 (ix2 r b) := by
  unfold sout0_B_0 kernelRun0_B
  dsimp only
  sl_unfold_words
  refine (View.read_writes_cons_unit_of_mem _ _ _ _ _ _ (ix2 a b) rfl (ix2_at a b)).trans ?_
  refine (pay2_apply _ _ _ a b).trans (congrArg₂ (fun p q : EReal => p + q) ?_ (terms arg3 harg3 arg4 harg4 x0 x1 a b))
  exact (ld_at arg6.view _ rfl _ (ix2 a b) (ix2_at a b)).trans (congrFun (harg6.read_unread xs0) _)

theorem soutC (hc0 : ¬cond0_0 i) (hc1 : cond0_1 i) (a : Fin 1024) (b : Fin 1408) :
    sout0_C_0 c i arg3 harg3 arg4 harg4 arg5 harg5 arg6 harg6 hc0 hc1 x0 x1 xs0 (ix2 a b) = xs0 (ix2 a b) + ∑ r : Fin 2048, x0 (ix2 r a) * x1 (ix2 r b) := by
  unfold sout0_C_0 kernelRun0_C
  dsimp only
  sl_unfold_words
  refine (View.read_writes_cons_unit_of_mem _ _ _ _ _ _ (ix2 a b) rfl (ix2_at a b)).trans ?_
  refine (pay2_apply _ _ _ a b).trans (congrArg₂ (fun p q : EReal => p + q) ?_ (terms arg3 harg3 arg4 harg4 x0 x1 a b))
  exact (ld_at arg6.view _ rfl _ (ix2 a b) (ix2_at a b)).trans (congrFun (harg6.read_unread xs0) _)

theorem outC (hc0 : ¬cond0_0 i) (hc1 : cond0_1 i) (a : Fin 1024) (b : Fin 1408) :
    out0_C_2 c i arg3 harg3 arg4 harg4 arg5 harg5 arg6 harg6 hc0 hc1 x0 x1 xs0 (ix3 0 a b) = xs0 (ix2 a b) + ∑ r : Fin 2048, x0 (ix2 r a) * x1 (ix2 r b) := by
  unfold out0_C_2 kernelRun0_C
  dsimp only
  sl_unfold_words
  refine (View.read_writes_cons_unit_of_mem _ _ _ _ _ _ (ix3 0 a b) rfl ?_).trans ?_
  · intro j; match j with
    | 0 => rfl
    | 1 => exact (Nat.zero_add _).symm
    | 2 => exact (Nat.zero_add _).symm
  refine (pay3_apply _ a b).trans ?_
  rw [View.readCov_cons_toLoadRect]
  refine (pay2_apply _ _ _ a b).trans (congrArg₂ (fun p q : EReal => p + q) ?_ (terms arg3 harg3 arg4 harg4 x0 x1 a b))
  exact (ld_at arg6.view _ rfl _ (ix2 a b) (ix2_at a b)).trans (congrFun (harg6.read_unread xs0) _)

variable (m : (ℓ : Loc nD τ sig) → Buf (Elt Ideal) ℓ)

theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

theorem N16 : cfg0.N = 16 := by decide +kernel

/-- A row of the argument arrays, from a grid point and a row of its block. -/
def gr (t : Fin cfg0.N) (r : Fin 2048) : Fin 8192 := ⟨2048 * (t.val % 4) + r.val, by omega⟩
/-- A column of the second argument array, from a grid point and a column of its block. -/
def gc (t : Fin cfg0.N) (b : Fin 1408) : Fin 5632 := ⟨1408 * (t.val / 4) + b.val, by have := t.isLt; have := N16; omega⟩

theorem blk0 (t : Fin cfg0.N) (r : Fin 2048) (a : Fin 1024) : iblk m c 0 t (ix2 r a) = V m c main_v0 (ix2 (gr t r) a) := by
  unfold gr
  blk_point [iblk, idx t]
theorem blk1 (t : Fin cfg0.N) (r : Fin 2048) (b : Fin 1408) : iblk m c 1 t (ix2 r b) = V m c main_v1 (ix2 (gr t r) (gc t b)) := by
  unfold gr gc
  blk_point [iblk, idx t]

/-- The products of two blocks' columns, summed over the rows of a block. -/
def prod (x0 : FVec Ideal S2048x1024 .bf16) (x1 : FVec Ideal S2048x1408 .bf16) (a : Fin 1024) (b : Fin 1408) : EReal :=
  ∑ r : Fin 2048, x0 (ix2 r a) * x1 (ix2 r b)

/-- What one grid point adds. -/
def step (A : FVec Ideal S8192x1024 .bf16) (B : FVec Ideal S8192x5632 .bf16) (t : Fin cfg0.N) (a : Fin 1024) (b : Fin 1408) : EReal :=
  ∑ r : Fin 2048, A (ix2 (gr t r) a) * B (ix2 (gr t r) (gc t b))

/-- The products of two columns, summed over all the rows. -/
def whole (A : FVec Ideal S8192x1024 .bf16) (B : FVec Ideal S8192x5632 .bf16) (a : Fin 1024) (b : Fin 5632) : EReal :=
  ∑ r : Fin 8192, A (ix2 r a) * B (ix2 r b)

theorem step_eq (t : Fin cfg0.N) (a : Fin 1024) (b : Fin 1408) :
    prod (iblk m c 0 t) (iblk m c 1 t) a b = step (V m c main_v0) (V m c main_v1) t a b :=
  Finset.sum_congr rfl fun r _ => congrArg₂ (fun p q : EReal => p * q) (blk0 c m t r a) (blk1 c m t r b)

theorem scratch (t : Fin cfg0.N) (ht : t.val % 4 = 3) (a : Fin 1024) (b : Fin 1408) :
    (outsAt0 m c t.val t.isLt).2 (ix2 a b) = whole (V m c main_v0) (V m c main_v1) a (gc t b) := by
  have key := Pipeline.eq_sum_fin_of_reset_step_apply_of_flush (M := EReal) (fun n h (i : Fin 1024 × Fin 1408) => (outsAt0 m c n h).2 (ix2 i.1 i.2)) 4 (fun _ => 0)
    (fun t i => step (V m c main_v0) (V m c main_v1) t i.1 i.2)
    (fun t h0 i => by
      obtain ⟨a, b⟩ := i
      dsimp only
      rw [outsAt0_A m c t h0 (by omega)]
      dsimp only
      refine (soutA _ _ _ _ _ _ _ _ _ _ _ _ _ _ a b).trans ?_
      exact congrArg (fun z : EReal => 0 + z) (step_eq c m t a b))
    (fun t h0 i => by
      obtain ⟨a, b⟩ := i
      dsimp only
      by_cases h1 : t.val % 4 = 3
      · rw [outsAt0_C m c t h0 h1]
        dsimp only
        refine (soutC _ _ _ _ _ _ _ _ _ _ _ _ _ _ _ a b).trans ?_
        exact congrArg (fun z : EReal => _ + z) (step_eq c m t a b)
      · rw [outsAt0_B m c t h0 h1]
        dsimp only
        refine (soutB _ _ _ _ _ _ _ _ _ _ _ _ _ _ _ a b).trans ?_
        exact congrArg (fun z : EReal => _ + z) (step_eq c m t a b))
    t ht (a, b)
  refine key.trans ((zero_add _).trans ?_)
  refine Fin.sum_mul_add_congr fun s k hl => ?_
  have ec : gc ⟨4 * (t.val / 4) + s.val, Pipeline.run_point_lt_of_flush t ht s⟩ b = gc t b := Fin.ext (by simp only [gc]; omega)
  have er : gr ⟨4 * (t.val / 4) + s.val, Pipeline.run_point_lt_of_flush t ht s⟩ k = ⟨s.val * 2048 + k.val, hl⟩ := Fin.ext (by simp only [gr]; omega)
  rw [ec, er]

theorem written (t : Fin cfg0.N) (ht : t.val % 4 = 3) (a : Fin 1024) (b : Fin 1408) :
    (outsAt0 m c t.val t.isLt).1 (ix3 0 a b) = (outsAt0 m c t.val t.isLt).2 (ix2 a b) := by
  rw [outsAt0_C m c t (by omega) ht]
  dsimp only
  exact (outC _ _ _ _ _ _ _ _ _ _ _ _ _ _ _ a b).trans (soutC _ _ _ _ _ _ _ _ _ _ _ _ _ _ _ a b).symm

/-- A column of the whole gradient from a shard and a column of it. -/
def col (j : Fin 4) (b : Fin 1408) : Fin 5632 := ⟨1408 * j.val + b.val, by omega⟩

/-- The kernel's result array. -/
theorem final : (dats m 0 c).arrAt 2 cfg0.N = fun y : S4x1024x1408.Idx =>
    whole (V m c main_v0) (V m c main_v1) (y 1) (col (y 0) (y 2)) := by
  refine (dats m 0 c).arrAt_eq_of_covers 2 _ (by decide +kernel) fun t hf y => ?_
  have ht : t.val % 4 = 3 := (flush0_2 t).1 hf
  blk_simp
  rw [after0_2]
  obtain ⟨z, a, b, rfl⟩ : ∃ (z : Fin 1) (a : Fin 1024) (b : Fin 1408), y = ix3 z a b := ⟨_, _, _, eq_ix3 y⟩
  obtain rfl : z = 0 := Subsingleton.elim _ _
  have e0 : ((win0_2.blk t).view.emb (ix3 0 a b) 0).val = t.val / 4 := by blk_simp [idx t]; simp
  have e1 : (win0_2.blk t).view.emb (ix3 0 a b) 1 = a := Fin.ext (by blk_simp [idx t])
  have e2 : (win0_2.blk t).view.emb (ix3 0 a b) 2 = b := Fin.ext (by blk_simp [idx t])
  rw [e1, e2]
  generalize (win0_2.blk t).view.emb (ix3 0 a b) 0 = z at e0 ⊢
  have ec : col z b = gc t b := Fin.ext (by show 1408 * z.val + b.val = 1408 * (t.val / 4) + b.val; rw [e0])
  rw [ec]
  exact (written c m t ht a b).trans (scratch c m t ht a b)

theorem v0_apply (r : Fin 8192) (x : Fin 1024) : V m c main_v0 (ix2 r x) = m ((c : Thread nD τ).loc main_arg0) (ix2 r x) := by
  entry_read
  pointwise
theorem v1_apply (r : Fin 8192) (x : Fin 5632) : V m c main_v1 (ix2 r x) = m ((c : Thread nD τ).loc main_arg1) (ix2 r x) := by
  entry_read
  pointwise

end Cert.Kernel4Ideal.Value

end
-- ==== Proof.NormBwd.lean ====
/- The backward step of the feed-forward block's normalization: what the kernel leaves in its result arrays, entry by entry. -/
module

public import proofs.«01_k».proof.Proof.GradUp
public import proofs.«01_k».proof.Proof.Gen.Kernel3Ideal.Frame

@[expose] public section

set_option maxRecDepth 16384

noncomputable section

namespace Cert.Norm

open Idealize.ShloMosaic
open Cert.Kernel4Ideal.Value (col)

/-- A row of the product with the weights' transpose, added up shard by shard. -/
def up (P : Fin 5632 → EReal) (W : Fin 4 → Fin 1408 → EReal) : EReal :=
  0 + (∑ x : Fin 1408, P (col 0 x) * W 0 x) + (∑ x : Fin 1408, P (col 1 x) * W 1 x) + (∑ x : Fin 1408, P (col 2 x) * W 2 x)
    + ∑ x : Fin 1408, P (col 3 x) * W 3 x
/-- The reciprocal root of a row's mean square. -/
def rs (X : Fin 1024 → EReal) : EReal :=
  Ideal.rsqrt ((∑ l : Fin 1024, X l * X l) * Ideal.ofBits .f32 0x3A800000#32 + Ideal.ofBits .f32 0x358637BD#32)
/-- The gradient of a row's entry. -/
def dx (X G U : Fin 1024 → EReal) (y : EReal) (l : Fin 1024) : EReal :=
  rs X * (U l * G l - X l * rs X * ((∑ k : Fin 1024, U k * G k * (X k * rs X)) * Ideal.ofBits .f32 0x3A800000#32)) + y
/-- A row's share of the gain's gradient. -/
def gg (X : Fin 1024 → EReal) (U : EReal) (l : Fin 1024) : EReal := U * (X l * rs X)

theorem dx_congr {X X' G G' U U' : Fin 1024 → EReal} {y y' : EReal} (l : Fin 1024) (hX : ∀ l, X l = X' l) (hG : ∀ l, G l = G' l) (hU : ∀ l, U l = U' l)
    (hy : y = y') : dx X G U y l = dx X' G' U' y' l := by
  obtain rfl : X = X' := funext hX
  obtain rfl : G = G' := funext hG
  obtain rfl : U = U' := funext hU
  rw [hy]
theorem gg_congr {X X' : Fin 1024 → EReal} {U U' : EReal} (l : Fin 1024) (hX : ∀ l, X l = X' l) (hU : U = U') : gg X U l = gg X' U' l := by
  obtain rfl : X = X' := funext hX
  rw [hU]
theorem up_congr {P P' : Fin 5632 → EReal} {W W' : Fin 4 → Fin 1408 → EReal} (hP : ∀ j, P j = P' j) (hW : ∀ k x, W k x = W' k x) : up P W = up P' W' := by
  obtain rfl : P = P' := funext hP
  obtain rfl : W = W' := funext fun k => funext fun x => hW k x
  rfl

end Cert.Norm

namespace Cert.Kernel3Ideal.Value

open Cert.Kernel3Ideal Cert.Kernel3Ideal.Gen
open Idealize.ShloMosaic Idealize.ShloMosaic.TcCoe Idealize.SL.Sem
open Cert.KernelIdeal.Value (ld_at)
open Cert.Kernel4Ideal.Value (col ix2_at)
open Cert.Norm (up rs dx gg dx_congr gg_congr up_congr)

/-- A row of a block of the input. -/
def rowX (x1 : FVec Ideal S512x1024 .f32) (r : Fin 512) (l : Fin 1024) : EReal := x1 (ix2 r l)
/-- A row of a block of the incoming gradient. -/
def rowP (x0 : FVec Ideal S512x5632 .bf16) (r : Fin 512) (j : Fin 5632) : EReal := x0 (ix2 r j)
/-- A row of the weights, shard by shard. -/
def rowW (x4 : FVec Ideal S4x1024x1408 .bf16) (l : Fin 1024) (k : Fin 4) (x : Fin 1408) : EReal := x4 (ix3 k l x)
/-- The gain. -/
def rowG (x3 : FVec Ideal S1x1024 .f32) (l : Fin 1024) : EReal := x3 (ix2 0 l)

theorem pay1_apply (v28 : Vec Ideal S512x1024 .f32) (r : Fin 512) : k0_pay1 v28 (ix2 r 0) = rs (rowX v28 r) := by
  pointwise [k0_pay1]
  rfl

theorem pay2_apply (v28 : Vec Ideal S512x1024 .f32) (r : Fin 512) (l : Fin 1024) : k0_pay2 v28 (ix2 r l) = rowX v28 r l * rs (rowX v28 r) := by
  pointwise [k0_pay2, pay1_apply]
  rfl

theorem pay3_apply (v27 : FVec Ideal S512x1024 .f32) (v28 : Vec Ideal S512x1024 .f32) (v54 : Vec Ideal S1x1024 .f32) (l : Fin 1024) :
    k0_pay3 v27 v28 v54 (ix2 0 l) = v54 (ix2 0 l) + ∑ r : Fin 512, gg (rowX v28 r) (v27 (ix2 r l)) l := by
  pointwise [k0_pay3, pay2_apply]
  rfl

theorem pay4_apply (v27 : FVec Ideal S512x1024 .f32) (v28 : Vec Ideal S512x1024 .f32) (v37 : Vec Ideal S1x1024 .f32) (v60 : Vec Ideal S512x1024 .f32)
    (r : Fin 512) (l : Fin 1024) :
    k0_pay4 v27 v28 v37 v60 (ix2 r l) = dx (rowX v28 r) (rowG v37) (fun k => v27 (ix2 r k)) (v60 (ix2 r l)) l := by
  pointwise [k0_pay4, pay2_apply, pay1_apply]
  rfl

theorem pay5_apply (v27 : FVec Ideal S512x1024 .f32) (v28 : Vec Ideal S512x1024 .f32) (v37 : Vec Ideal S1x1024 .f32) (v60 : Vec Ideal S512x1024 .f32)
    (r : Fin 512) (l : Fin 1024) :
    k0_pay5 v27 v28 v37 v60 (ix2 r l) = dx (rowX v28 r) (rowG v37) (fun k => v27 (ix2 r k)) (v60 (ix2 r l)) l := by
  pointwise [k0_pay5]
  exact pay4_apply v27 v28 v37 v60 r l

theorem pay6_apply (k : Fin 8) (l : Fin 1024) : k0_pay6 (F := Ideal) (ix2 k l) = 0 := by
  pointwise [k0_pay6]

theorem pay7_apply (v4 : Vec Ideal S512x1408 .bf16) (v6 : Vec Ideal S1x1024x1408 .bf16) (v10 : Vec Ideal S512x1408 .bf16) (v12 : Vec Ideal S1x1024x1408 .bf16)
    (v16 : Vec Ideal S512x1408 .bf16) (v18 : Vec Ideal S1x1024x1408 .bf16) (v22 : Vec Ideal S512x1408 .bf16) (v24 : Vec Ideal S1x1024x1408 .bf16)
    (P : Fin 5632 → EReal) (W : Fin 4 → Fin 1408 → EReal) (r : Fin 512) (l : Fin 1024)
    (h0 : ∀ x, v4 (ix2 r x) = P (col 0 x)) (h1 : ∀ x, v10 (ix2 r x) = P (col 1 x)) (h2 : ∀ x, v16 (ix2 r x) = P (col 2 x)) (h3 : ∀ x, v22 (ix2 r x) = P (col 3 x))
    (w0 : ∀ x, v6 (ix3 0 l x) = W 0 x) (w1 : ∀ x, v12 (ix3 0 l x) = W 1 x) (w2 : ∀ x, v18 (ix3 0 l x) = W 2 x) (w3 : ∀ x, v24 (ix3 0 l x) = W 3 x) :
    k0_pay7 v4 v6 v10 v12 v16 v18 v22 v24 (ix2 r l) = up P W := by
  pointwise [k0_pay7]
  simp only [h0, h1, h2, h3, w0, w1, w2, w3]
  unfold up
  simp only [zero_add]

variable (c : Dev nD) (i : grid0.Coords) (arg1 : Memref sig .tc .vmem S512x5632 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x1024x1408 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S8x1024 .f32) (harg8 : arg8.IsWhole)
  (x0 : Vec Ideal S512x5632 .bf16) (x1 : Vec Ideal S512x1024 .f32) (x2 : Vec Ideal S512x1024 .f32) (x3 : Vec Ideal S1x1024 .f32) (x4 : Vec Ideal S4x1024x1408 .bf16) (xo7 : Vec Ideal S8x1024 .f32)

theorem prod_at (r : Fin 512) (l : Fin 1024) :
    k0_pay7 (arg1.view.readAt (Elt Ideal) (Rect.unit (s := S512x5632) ![0, 0] S512x1408.size inb_S512x5632_S512x1408_0_0).toLoadRect (harg1.unread x0))
      (arg5.view.readAt (Elt Ideal) (Rect.unit (s := S4x1024x1408) ![0, 0, 0] S1x1024x1408.size inb_S4x1024x1408_S1x1024x1408_0_0_0).toLoadRect (harg5.unread x4))
      (arg1.view.readAt (Elt Ideal) (Rect.unit (s := S512x5632) ![0, 1408] S512x1408.size inb_S512x5632_S512x1408_0_1408).toLoadRect (harg1.unread x0))
      (arg5.view.readAt (Elt Ideal) (Rect.unit (s := S4x1024x1408) ![1, 0, 0] S1x1024x1408.size inb_S4x1024x1408_S1x1024x1408_1_0_0).toLoadRect (harg5.unread x4))
      (arg1.view.readAt (Elt Ideal) (Rect.unit (s := S512x5632) ![0, 2816] S512x1408.size inb_S512x5632_S512x1408_0_2816).toLoadRect (harg1.unread x0))
      (arg5.view.readAt (Elt Ideal) (Rect.unit (s := S4x1024x1408) ![2, 0, 0] S1x1024x1408.size inb_S4x1024x1408_S1x1024x1408_2_0_0).toLoadRect (harg5.unread x4))
      (arg1.view.readAt (Elt Ideal) (Rect.unit (s := S512x5632) ![0, 4224] S512x1408.size inb_S512x5632_S512x1408_0_4224).toLoadRect (harg1.unread x0))
      (arg5.view.readAt (Elt Ideal) (Rect.unit (s := S4x1024x1408) ![3, 0, 0] S1x1024x1408.size inb_S4x1024x1408_S1x1024x1408_3_0_0).toLoadRect (harg5.unread x4)) (ix2 r l)
      = up (rowP x0 r) (rowW x4 l) := by
  refine pay7_apply _ _ _ _ _ _ _ _ _ _ r l ?_ ?_ ?_ ?_ ?_ ?_ ?_ ?_
  · exact fun x => (ld_at arg1.view _ rfl _ (ix2 r (col 0 x)) (fun a => by
      match a with
      | 0 => exact (Nat.zero_add _).symm
      | 1 => show 1408 * 0 + x.val = 0 + x.val; rfl)).trans (congrFun (harg1.read_unread x0) _)
  · exact fun x => (ld_at arg1.view _ rfl _ (ix2 r (col 1 x)) (fun a => by
      match a with
      | 0 => exact (Nat.zero_add _).symm
      | 1 => show 1408 * 1 + x.val = 1408 + x.val; rfl)).trans (congrFun (harg1.read_unread x0) _)
  · exact fun x => (ld_at arg1.view _ rfl _ (ix2 r (col 2 x)) (fun a => by
      match a with
      | 0 => exact (Nat.zero_add _).symm
      | 1 => show 1408 * 2 + x.val = 2816 + x.val; rfl)).trans (congrFun (harg1.read_unread x0) _)
  · exact fun x => (ld_at arg1.view _ rfl _ (ix2 r (col 3 x)) (fun a => by
      match a with
      | 0 => exact (Nat.zero_add _).symm
      | 1 => show 1408 * 3 + x.val = 4224 + x.val; rfl)).trans (congrFun (harg1.read_unread x0) _)
  · exact fun x => (ld_at arg5.view _ rfl _ (ix3 0 l x) (fun a => by
      match a with
      | 0 => rfl
      | 1 => exact (Nat.zero_add _).symm
      | 2 => exact (Nat.zero_add _).symm)).trans (congrFun (harg5.read_unread x4) _)
  · exact fun x => (ld_at arg5.view _ rfl _ (ix3 1 l x) (fun a => by
      match a with
      | 0 => rfl
      | 1 => exact (Nat.zero_add _).symm
      | 2 => exact (Nat.zero_add _).symm)).trans (congrFun (harg5.read_unread x4) _)
  · exact fun x => (ld_at arg5.view _ rfl _ (ix3 2 l x) (fun a => by
      match a with
      | 0 => rfl
      | 1 => exact (Nat.zero_add _).symm
      | 2 => exact (Nat.zero_add _).symm)).trans (congrFun (harg5.read_unread x4) _)
  · exact fun x => (ld_at arg5.view _ rfl _ (ix3 3 l x) (fun a => by
      match a with
      | 0 => rfl
      | 1 => exact (Nat.zero_add _).symm
      | 2 => exact (Nat.zero_add _).symm)).trans (congrFun (harg5.read_unread x4) _)

theorem x_at (r : Fin 512) (l : Fin 1024) :
    rowX (arg2.view.readAt (Elt Ideal) (Rect.unit (s := S512x1024) ![0, 0] S512x1024.size inb_S512x1024_S512x1024_0_0).toLoadRect (harg2.unread x1)) r l = rowX x1 r l :=
  (ld_at arg2.view _ rfl _ (ix2 r l) (ix2_at r l)).trans (congrFun (harg2.read_unread x1) _)
theorem y_at (r : Fin 512) (l : Fin 1024) :
    arg3.view.readAt (Elt Ideal) (Rect.unit (s := S512x1024) ![0, 0] S512x1024.size inb_S512x1024_S512x1024_0_0).toLoadRect (harg3.unread x2) (ix2 r l) = x2 (ix2 r l) :=
  (ld_at arg3.view _ rfl _ (ix2 r l) (ix2_at r l)).trans (congrFun (harg3.read_unread x2) _)
theorem g_at (l : Fin 1024) :
    rowG (arg4.view.readAt (Elt Ideal) (Rect.unit (s := S1x1024) ![0, 0] S1x1024.size inb_S1x1024_S1x1024_0_0).toLoadRect (harg4.unread x3)) l = rowG x3 l :=
  (ld_at arg4.view _ rfl _ (ix2 0 l) (ix2_at 0 l)).trans (congrFun (harg4.read_unread x3) _)

/-- The gradient of a block's entry. -/
def dxB (x0 : FVec Ideal S512x5632 .bf16) (x1 x2 : FVec Ideal S512x1024 .f32) (x3 : FVec Ideal S1x1024 .f32) (x4 : FVec Ideal S4x1024x1408 .bf16)
    (r : Fin 512) (l : Fin 1024) : EReal :=
  dx (rowX x1 r) (rowG x3) (fun k => up (rowP x0 r) (rowW x4 k)) (x2 (ix2 r l)) l
/-- A block's share of the gain's gradient. -/
def ggB (x0 : FVec Ideal S512x5632 .bf16) (x1 : FVec Ideal S512x1024 .f32) (x4 : FVec Ideal S4x1024x1408 .bf16) (l : Fin 1024) : EReal :=
  ∑ r : Fin 512, gg (rowX x1 r) (up (rowP x0 r) (rowW x4 l)) l

theorem row_at (l : Fin 1024) (j : Fin 2) : ((ix2 (0 : Fin 8) l : S8x1024.Idx) j).val = (![0, 0] : Fin 2 → ℕ) j + ((ix2 (0 : Fin 1) l : S1x1024.Idx) j).val := by
  match j with
  | 0 => rfl
  | 1 => exact (Nat.zero_add _).symm

theorem outA5 (hc0 : cond0_0 i) (r : Fin 512) (l : Fin 1024) :
    out0_A_5 c i arg1 harg1 arg2 harg2 arg3 harg3 arg4 harg4 arg5 harg5 arg6 harg6 arg7 harg7 arg8 harg8 hc0 x0 x1 x2 x3 x4 (ix2 r l) = dxB x0 x1 x2 x3 x4 r l := by
  unfold out0_A_5 kernelRun0_A
  dsimp only
  sl_unfold_words
  refine (View.read_writes_cons_unit_of_mem _ _ _ _ _ _ (ix2 r l) rfl (ix2_at r l)).trans ?_
  refine (pay4_apply _ _ _ _ r l).trans ?_
  exact dx_congr l (x_at arg2 harg2 x1 r) (g_at arg4 harg4 x3) (prod_at arg1 harg1 arg5 harg5 x0 x4 r) (y_at arg3 harg3 x2 r l)

theorem outA6 (hc0 : cond0_0 i) (r : Fin 512) (l : Fin 1024) :
    out0_A_6 c i arg1 harg1 arg2 harg2 arg3 harg3 arg4 harg4 arg5 harg5 arg6 harg6 arg7 harg7 arg8 harg8 hc0 x0 x1 x2 x3 x4 (ix2 r l) = dxB x0 x1 x2 x3 x4 r l := by
  unfold out0_A_6 kernelRun0_A
  dsimp only
  sl_unfold_words
  refine (View.read_writes_cons_unit_of_mem _ _ _ _ _ _ (ix2 r l) rfl (ix2_at r l)).trans ?_
  refine (pay5_apply _ _ _ _ r l).trans ?_
  exact dx_congr l (x_at arg2 harg2 x1 r) (g_at arg4 harg4 x3) (prod_at arg1 harg1 arg5 harg5 x0 x4 r) (y_at arg3 harg3 x2 r l)

theorem outB5 (hc0 : ¬cond0_0 i) (r : Fin 512) (l : Fin 1024) :
    out0_B_5 c i arg1 harg1 arg2 harg2 arg3 harg3 arg4 harg4 arg5 harg5 arg6 harg6 arg7 harg7 arg8 harg8 hc0 x0 x1 x2 x3 x4 xo7 (ix2 r l) = dxB x0 x1 x2 x3 x4 r l := by
  unfold out0_B_5 kernelRun0_B
  dsimp only
  sl_unfold_words
  refine (View.read_writes_cons_unit_of_mem _ _ _ _ _ _ (ix2 r l) rfl (ix2_at r l)).trans ?_
  refine (pay4_apply _ _ _ _ r l).trans ?_
  exact dx_congr l (x_at arg2 harg2 x1 r) (g_at arg4 harg4 x3) (prod_at arg1 harg1 arg5 harg5 x0 x4 r) (y_at arg3 harg3 x2 r l)

theorem outB6 (hc0 : ¬cond0_0 i) (r : Fin 512) (l : Fin 1024) :
    out0_B_6 c i arg1 harg1 arg2 harg2 arg3 harg3 arg4 harg4 arg5 harg5 arg6 harg6 arg7 harg7 arg8 harg8 hc0 x0 x1 x2 x3 x4 xo7 (ix2 r l) = dxB x0 x1 x2 x3 x4 r l := by
  unfold out0_B_6 kernelRun0_B
  dsimp only
  sl_unfold_words
  refine (View.read_writes_cons_unit_of_mem _ _ _ _ _ _ (ix2 r l) rfl (ix2_at r l)).trans ?_
  refine (pay5_apply _ _ _ _ r l).trans ?_
  exact dx_congr l (x_at arg2 harg2 x1 r) (g_at arg4 harg4 x3) (prod_at arg1 harg1 arg5 harg5 x0 x4 r) (y_at arg3 harg3 x2 r l)

theorem outA7_zero (hc0 : cond0_0 i) (l : Fin 1024) :
    out0_A_7 c i arg1 harg1 arg2 harg2 arg3 harg3 arg4 harg4 arg5 harg5 arg6 harg6 arg7 harg7 arg8 harg8 hc0 x0 x1 x2 x3 x4 (ix2 0 l) = 0 + ggB x0 x1 x4 l := by
  unfold out0_A_7 kernelRun0_A
  dsimp only
  sl_unfold_words
  refine (View.read_writes_cons_unit_of_mem _ _ _ _ _ _ (ix2 0 l) rfl (row_at l)).trans ?_
  refine (pay3_apply _ _ _ l).trans (congrArg₂ (fun p q : EReal => p + q) ?_ ?_)
  · rw [View.readCov]
    refine (ld_at arg8.view _ rfl _ (ix2 0 l) (row_at l)).trans ?_
    exact (View.read_writes_cons_unit_of_mem _ _ _ _ _ _ (ix2 0 l) rfl (ix2_at 0 l)).trans (pay6_apply 0 l)
  · exact Finset.sum_congr rfl fun r _ => gg_congr l (x_at arg2 harg2 x1 r) (prod_at arg1 harg1 arg5 harg5 x0 x4 r l)

theorem outA7_rest (hc0 : cond0_0 i) (k : Fin 8) (hk : 1 ≤ k.val) (l : Fin 1024) :
    out0_A_7 c i arg1 harg1 arg2 harg2 arg3 harg3 arg4 harg4 arg5 harg5 arg6 harg6 arg7 harg7 arg8 harg8 hc0 x0 x1 x2 x3 x4 (ix2 k l) = 0 := by
  unfold out0_A_7 kernelRun0_A
  dsimp only
  sl_unfold_words
  refine (View.read_writes_cons_unit_of_not_mem _ _ _ _ _ _ rfl 0 (Or.inr ?_)).trans ?_
  · show 0 + 1 ≤ k.val
    omega
  · exact (View.read_writes_cons_unit_of_mem _ _ _ _ _ _ (ix2 k l) rfl (ix2_at k l)).trans (pay6_apply k l)

theorem outB7_zero (hc0 : ¬cond0_0 i) (l : Fin 1024) :
    out0_B_7 c i arg1 harg1 arg2 harg2 arg3 harg3 arg4 harg4 arg5 harg5 arg6 harg6 arg7 harg7 arg8 harg8 hc0 x0 x1 x2 x3 x4 xo7 (ix2 0 l) = xo7 (ix2 0 l) + ggB x0 x1 x4 l := by
  unfold out0_B_7 kernelRun0_B
  dsimp only
  sl_unfold_words
  refine (View.read_writes_cons_unit_of_mem _ _ _ _ _ _ (ix2 0 l) rfl (row_at l)).trans ?_
  refine (pay3_apply _ _ _ l).trans (congrArg₂ (fun p q : EReal => p + q) ?_ ?_)
  · exact (ld_at arg8.view _ rfl _ (ix2 0 l) (row_at l)).trans (congrFun (harg8.read_unread xo7) _)
  · exact Finset.sum_congr rfl fun r _ => gg_congr l (x_at arg2 harg2 x1 r) (prod_at arg1 harg1 arg5 harg5 x0 x4 r l)

theorem outB7_rest (hc0 : ¬cond0_0 i) (k : Fin 8) (hk : 1 ≤ k.val) (l : Fin 1024) :
    out0_B_7 c i arg1 harg1 arg2 harg2 arg3 harg3 arg4 harg4 arg5 harg5 arg6 harg6 arg7 harg7 arg8 harg8 hc0 x0 x1 x2 x3 x4 xo7 (ix2 k l) = xo7 (ix2 k l) := by
  unfold out0_B_7 kernelRun0_B
  dsimp only
  sl_unfold_words
  refine (View.read_writes_cons_unit_of_not_mem _ _ _ _ _ _ rfl 0 (Or.inr ?_)).trans ?_
  · show 0 + 1 ≤ k.val
    omega
  · exact congrFun (harg8.read_unread xo7) _

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0, 0] ∧ win0_5.index t = ![t.val, 0] ∧ win0_6.index t = ![t.val, 0] ∧ win0_7.index t = ![0, 0] :=
  (by decide +kernel : ∀ t : Fin grid0.N, _)

theorem N16 : cfg0.N = 16 := by decide +kernel

/-- A row of the arrays, from a grid point and a row of its block. -/
def gr (t : Fin cfg0.N) (r : Fin 512) : Fin 8192 := ⟨512 * t.val + r.val, by have := t.isLt; have := N16; omega⟩

theorem blk0 (t : Fin cfg0.N) (r : Fin 512) (j : Fin 5632) : iblk m c 0 t (ix2 r j) = V m c main_v2 (ix2 (gr t r) j) := by
  unfold gr
  blk_point [iblk, idx t]
theorem blk1 (t : Fin cfg0.N) (r : Fin 512) (l : Fin 1024) : iblk m c 1 t (ix2 r l) = V m c main_arg1 (ix2 (gr t r) l) := by
  unfold gr
  blk_point [iblk, idx t]
theorem blk2 (t : Fin cfg0.N) (r : Fin 512) (l : Fin 1024) : iblk m c 2 t (ix2 r l) = V m c main_arg2 (ix2 (gr t r) l) := by
  unfold gr
  blk_point [iblk, idx t]
theorem blk3 (t : Fin cfg0.N) (l : Fin 1024) : iblk m c 3 t (ix2 0 l) = V m c main_v3 (ix2 0 l) := by
  blk_point [iblk, idx t]
theorem blk4 (t : Fin cfg0.N) (k : Fin 4) (l : Fin 1024) (x : Fin 1408) : iblk m c 4 t (ix3 k l x) = V m c main_v4 (ix3 k l x) := by
  blk_point [iblk, idx t]

/-- The gradient of the arrays' entry. -/
def dxE (P : FVec Ideal S8192x5632 .bf16) (X Y : FVec Ideal S8192x1024 .f32) (G : FVec Ideal S1x1024 .f32) (W : FVec Ideal S4x1024x1408 .bf16)
    (r : Fin 8192) (l : Fin 1024) : EReal :=
  dx (fun k => X (ix2 r k)) (fun k => G (ix2 0 k)) (fun k => up (fun j => P (ix2 r j)) (fun s x => W (ix3 s k x))) (Y (ix2 r l)) l
/-- A row's share of the gain's gradient. -/
def ggE (P : FVec Ideal S8192x5632 .bf16) (X : FVec Ideal S8192x1024 .f32) (W : FVec Ideal S4x1024x1408 .bf16) (r : Fin 8192) (l : Fin 1024) : EReal :=
  gg (fun k => X (ix2 r k)) (up (fun j => P (ix2 r j)) (fun s x => W (ix3 s l x))) l
/-- A grid point's share of the gain's gradient. -/
def ggT (P : FVec Ideal S8192x5632 .bf16) (X : FVec Ideal S8192x1024 .f32) (W : FVec Ideal S4x1024x1408 .bf16) (t : Fin cfg0.N) (l : Fin 1024) : EReal :=
  ∑ r : Fin 512, ggE P X W (gr t r) l

theorem dxB_eq (t : Fin cfg0.N) (r : Fin 512) (l : Fin 1024) :
    dxB (iblk m c 0 t) (iblk m c 1 t) (iblk m c 2 t) (iblk m c 3 t) (iblk m c 4 t) r l
      = dxE (V m c main_v2) (V m c main_arg1) (V m c main_arg2) (V m c main_v3) (V m c main_v4) (gr t r) l :=
  dx_congr l (fun k => blk1 c m t r k) (fun k => blk3 c m t k) (fun k => up_congr (fun j => blk0 c m t r j) (fun s x => blk4 c m t s k x)) (blk2 c m t r l)

theorem ggB_eq (t : Fin cfg0.N) (l : Fin 1024) :
    ggB (iblk m c 0 t) (iblk m c 1 t) (iblk m c 4 t) l = ggT (V m c main_v2) (V m c main_arg1) (V m c main_v4) t l :=
  Finset.sum_congr rfl fun r _ => gg_congr l (fun k => blk1 c m t r k) (up_congr (fun j => blk0 c m t r j) (fun s x => blk4 c m t s l x))

theorem after5 (t : Fin cfg0.N) (r : Fin 512) (l : Fin 1024) :
    (outsAt0 m c t.val t.isLt).1 (ix2 r l) = dxE (V m c main_v2) (V m c main_arg1) (V m c main_arg2) (V m c main_v3) (V m c main_v4) (gr t r) l := by
  by_cases h0 : t.val % 16 = 0
  · rw [outsAt0_A m c t h0]
    dsimp only
    exact (outA5 _ _ _ _ _ _ _ _ _ _ _ _ _ _ _ _ _ _ _ _ _ _ _ _ r l).trans (dxB_eq c m t r l)
  · rw [outsAt0_B m c t h0]
    dsimp only
    exact (outB5 _ _ _ _ _ _ _ _ _ _ _ _ _ _ _ _ _ _ _ _ _ _ _ _ _ r l).trans (dxB_eq c m t r l)

theorem after6 (t : Fin cfg0.N) (r : Fin 512) (l : Fin 1024) :
    (outsAt0 m c t.val t.isLt).2.1 (ix2 r l) = dxE (V m c main_v2) (V m c main_arg1) (V m c main_arg2) (V m c main_v3) (V m c main_v4) (gr t r) l := by
  by_cases h0 : t.val % 16 = 0
  · rw [outsAt0_A m c t h0]
    dsimp only
    exact (outA6 _ _ _ _ _ _ _ _ _ _ _ _ _ _ _ _ _ _ _ _ _ _ _ _ r l).trans (dxB_eq c m t r l)
  · rw [outsAt0_B m c t h0]
    dsimp only
    exact (outB6 _ _ _ _ _ _ _ _ _ _ _ _ _ _ _ _ _ _ _ _ _ _ _ _ _ r l).trans (dxB_eq c m t r l)

theorem after7 (t : Fin cfg0.N) (ht : t.val % 16 = 15) (l : Fin 1024) :
    (outsAt0 m c t.val t.isLt).2.2 (ix2 0 l) = ∑ r : Fin 8192, ggE (V m c main_v2) (V m c main_arg1) (V m c main_v4) r l := by
  have key := Pipeline.eq_sum_fin_of_reset_step_apply_of_flush (M := EReal) (fun n h (i : Fin 1024) => (outsAt0 m c n h).2.2 (ix2 0 i)) 16 (fun _ => 0)
    (fun t i => ggT (V m c main_v2) (V m c main_arg1) (V m c main_v4) t i)
    (fun t h0 i => by
      rw [outsAt0_A m c t h0]
      dsimp only
      refine (outA7_zero _ _ _ _ _ _ _ _ _ _ _ _ _ _ _ _ _ _ _ _ _ _ _ _ i).trans ?_
      exact congrArg (fun z : EReal => 0 + z) (ggB_eq c m t i))
    (fun t h0 i => by
      rw [outsAt0_B m c t h0]
      dsimp only
      refine (outB7_zero _ _ _ _ _ _ _ _ _ _ _ _ _ _ _ _ _ _ _ _ _ _ _ _ _ i).trans ?_
      exact congrArg (fun z : EReal => _ + z) (ggB_eq c m t i))
    t ht l
  refine key.trans ((zero_add _).trans ?_)
  refine Fin.sum_mul_add_congr fun s k hl => ?_
  have ht' : t.val / 16 = 0 := by have := t.isLt; have := N16; omega
  have er : gr ⟨16 * (t.val / 16) + s.val, Pipeline.run_point_lt_of_flush t ht s⟩ k = ⟨s.val * 512 + k.val, hl⟩ := Fin.ext (by simp only [gr]; omega)
  rw [er]

theorem after7_rest (k : Fin 8) (hk : 1 ≤ k.val) (l : Fin 1024) :
    ∀ (n : ℕ) (h : n < cfg0.N), (outsAt0 m c n h).2.2 (ix2 k l) = 0
  | n, h => by
    by_cases h0 : n % 16 = 0
    · have e : outsAt0 m c n h = _ := outsAt0_A m c ⟨n, h⟩ h0
      rw [e]
      dsimp only
      exact outA7_rest _ _ _ _ _ _ _ _ _ _ _ _ _ _ _ _ _ _ _ _ _ _ _ _ k hk l
    · have e : outsAt0 m c n h = _ := outsAt0_B m c ⟨n, h⟩ h0
      rw [e]
      dsimp only
      exact (outB7_rest _ _ _ _ _ _ _ _ _ _ _ _ _ _ _ _ _ _ _ _ _ _ _ _ _ k hk l).trans (after7_rest k hk l (n - 1) _)
  termination_by n => n
  decreasing_by omega

/-- The kernel's gradient of the input. -/
theorem final5 : (dats m 0 c).arrAt 5 cfg0.N = fun y : S8192x1024.Idx =>
    dxE (V m c main_v2) (V m c main_arg1) (V m c main_arg2) (V m c main_v3) (V m c main_v4) (y 0) (y 1) := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨_, _, eq_ix2 y⟩
  have e0 : (win0_5.blk t).view.emb (ix2 r l) 0 = gr t r := Fin.ext (by unfold gr; blk_simp [idx t]; show t.val * 512 + r.val = 512 * t.val + r.val; omega)
  have e1 : (win0_5.blk t).view.emb (ix2 r l) 1 = l := Fin.ext (by blk_simp [idx t])
  rw [e0, e1]
  exact after5 c m t r l

/-- The kernel's gradient of the input, rounded. -/
theorem final6 : (dats m 0 c).arrAt 6 cfg0.N = fun y : S8192x1024.Idx =>
    dxE (V m c main_v2) (V m c main_arg1) (V m c main_arg2) (V m c main_v3) (V m c main_v4) (y 0) (y 1) := by
  refine (dats m 0 c).arrAt_eq_of_covers 6 _ (by decide +kernel) fun t hf y => ?_
  blk_simp
  rw [after0_6]
  obtain ⟨r, l, rfl⟩ : ∃ (r : Fin 512) (l : Fin 1024), y = ix2 r l := ⟨_, _, eq_ix2 y⟩
  have e0 : (win0_6.blk t).view.emb (ix2 r l) 0 = gr t r := Fin.ext (by unfold gr; blk_simp [idx t]; show t.val * 512 + r.val = 512 * t.val + r.val; omega)
  have e1 : (win0_6.blk t).view.emb (ix2 r l) 1 = l := Fin.ext (by blk_simp [idx t])
  rw [e0, e1]
  exact after6 c m t r l

/-- A value in the first row, and zero in the others. -/
def firstRow (k : Fin 8) (z : EReal) : EReal := if 1 ≤ k.val then 0 else z

/-- The kernel's gradient of the gain. -/
theorem final7 : (dats m 0 c).arrAt 7 cfg0.N = fun y : S8x1024.Idx =>
    firstRow (y 0) (∑ r : Fin 8192, ggE (V m c main_v2) (V m c main_arg1) (V m c main_v4) r (y 1)) := by
  refine (dats m 0 c).arrAt_eq_of_covers 7 _ (by decide +kernel) fun t hf y => ?_
  have ht : t.val % 16 = 15 := (flush0_7 t).1 hf
  blk_simp
  rw [after0_7]
  obtain ⟨k, l, rfl⟩ : ∃ (k : Fin 8) (l : Fin 1024), y = ix2 k l := ⟨_, _, eq_ix2 y⟩
  have e0 : (win0_7.blk t).view.emb (ix2 k l) 0 = k := Fin.ext (by blk_simp [idx t])
  have e1 : (win0_7.blk t).view.emb (ix2 k l) 1 = l := Fin.ext (by blk_simp [idx t])
  rw [e0, e1]
  unfold firstRow
  by_cases hk : 1 ≤ k.val
  · rw [if_pos hk]
    exact after7_rest c m k hk l _ _
  · rw [if_neg hk]
    obtain rfl : k = 0 := Fin.ext (by show k.val = 0; omega)
    exact after7 c m t ht l

theorem v2_apply (r : Fin 8192) (j : Fin 5632) : V m c main_v2 (ix2 r j) = m ((c : Thread nD τ).loc main_arg0) (ix2 r j) := by
  entry_read
  pointwise
theorem arg1_apply (r : Fin 8192) (l : Fin 1024) : V m c main_arg1 (ix2 r l) = m ((c : Thread nD τ).loc main_arg1) (ix2 r l) := by
  entry_read
  rfl
theorem arg2_apply (r : Fin 8192) (l : Fin 1024) : V m c main_arg2 (ix2 r l) = m ((c : Thread nD τ).loc main_arg2) (ix2 r l) := by
  entry_read
  rfl
theorem v3_apply (l : Fin 1024) : V m c main_v3 (ix2 0 l) = m ((c : Thread nD τ).loc main_arg3) (ix1 l) := by
  entry_read
  pointwise
theorem v4_apply (k : Fin 4) (l : Fin 1024) (x : Fin 1408) : V m c main_v4 (ix3 k l x) = m ((c : Thread nD τ).loc main_arg4) (ix2 l (col k x)) := by
  entry_read
  pointwise
  exact congrArg (fun z : Fin 5632 => m ((c : Thread nD τ).loc main_arg4) (ix2 l z)) (Fin.ext (by show k.val * 1408 + x.val = 1408 * k.val + x.val; omega))

end Cert.Kernel3Ideal.Value

end
-- ==== Proof.Norm.lean ====
/- The backward step of the feed-forward block's normalization: the kernel's result arrays are the reference's. -/
module

public import proofs.«01_k».proof.Proof.NormBwd
public import proofs.«01_k».proof.Proof.Reals
public import proofs.«01_k».proof.Proof.Gen.Reference3Ideal.Run

@[expose] public section

set_option maxRecDepth 16384

noncomputable section

namespace Cert.Reference3Ideal.Value

open Cert.Reference3Ideal Cert.Reference3Ideal.Gen
open Idealize.ShloMosaic Idealize.ShloMosaic.TcCoe Idealize.SL.Sem

variable (P : FVec Ideal S8192x5632 .f32) (X Y : FVec Ideal S8192x1024 .f32) (G : FVec Ideal S1024 .f32) (W : FVec Ideal S1024x5632 .f32)

/-- A row's mean square, with the small constant. -/
def nV : FVec Ideal S8192x1 .f32 :=
  addf (Host.divf (broadcastInDim S8192x1 ![0] bcast_S8192_S8192x1_0 (Host.reduceAdd (mulf X X) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))
/-- Its reciprocal root. -/
def nR : FVec Ideal S8192x1 .f32 := Host.rsqrt (nV X)
/-- The derivative of the reciprocal root. -/
def nQ : FVec Ideal S8192x1 .f32 :=
  mulf (broadcastInDim S8192x1 ![] bcast_S_S8192x1 (constant S_ .f32 0xBF000000#32)) (Host.divf (nR X) (nV X))
/-- The gradient of the scaled rows. -/
def nU : FVec Ideal S8192x1024 .f32 := Host.dotGeneral dot_S8192x5632_S1024x5632_S8192x1024_1_1_0_0_n_n none P W
/-- The gradient of the normalized rows. -/
def nT : FVec Ideal S8192x1024 .f32 :=
  mulf (nU P W) (broadcastInDim S8192x1024 ![0, 1] bcast_S1x1024_S8192x1024_0_1 (broadcastInDim S1x1024 ![1] bcast_S1024_S1x1024_1 G))
/-- The gradient of the gain. -/
def nG : FVec Ideal S1024 .f32 :=
  Host.reduceAdd (shapeCast S1x1024 (Host.reduceAdd (mulf (mulf X (broadcastInDim S8192x1024 ![0, 1] bcast_S8192x1_S8192x1024_0_1 (nR X))) (nU P W))
    (constant S_ .f32 0x00000000#32) reducesTo_S8192x1024_S1024_d0 h_S_) shapeCasts_S1024_S1x1024) (constant S_ .f32 0x00000000#32) reducesTo_S1x1024_S1024_d0 h_S_
/-- The gradient of the sum of squares. -/
def nC : FVec Ideal S8192 .f32 :=
  Host.reduceAdd (Host.divf (mulf (shapeCast S8192x1 (Host.reduceAdd (mulf X (nT P G W)) (constant S_ .f32 0x00000000#32) reducesTo_S8192x1024_S8192_d1 h_S_)
    shapeCasts_S8192_S8192x1) (nQ X)) (broadcastInDim S8192x1 ![] bcast_S_S8192x1 (constant S_ .f32 0x44800000#32))) (constant S_ .f32 0x00000000#32) reducesTo_S8192x1_S8192_d1 h_S_
/-- The gradient of the input. -/
def nDx : FVec Ideal S8192x1024 .f32 :=
  addf (addf (addf Y (mulf (nT P G W) (broadcastInDim S8192x1024 ![0, 1] bcast_S8192x1_S8192x1024_0_1 (nR X))))
    (mulf X (broadcastInDim S8192x1024 ![0] bcast_S8192_S8192x1024_0 (nC P X G W)))) (mulf (broadcastInDim S8192x1024 ![0] bcast_S8192_S8192x1024_0 (nC P X G W)) X)
/-- The gradient of the input, rounded. -/
def nDb : FVec Ideal S8192x1024 .bf16 := truncf .bf16 (nDx P X Y G W) bitsLt_bf16_f32
/-- The gradient of the gain, over rows of zeros. -/
def nG8 : FVec Ideal S8x1024 .f32 :=
  concatenate S8x1024 0 [⟨S1x1024, (broadcastInDim S1x1024 ![1] bcast_S1024_S1x1024_1 (nG P X W))⟩,
    ⟨S7x1024, (broadcastInDim S7x1024 ![] bcast_S_S7x1024 (constant (F := Ideal) S_ .f32 0x00000000#32))⟩] concatenates_S1x1024_S7x1024_S8x1024_d0

theorem res38_eq (m : (ℓ : Loc nD τ sig) → Buf (Elt Ideal) ℓ) (c : Dev nD) : res_main_v38 m c =
    nDx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem res39_eq (m : (ℓ : Loc nD τ sig) → Buf (Elt Ideal) ℓ) (c : Dev nD) : res_main_v39 m c =
    nDb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

variable (r : Fin 8192) (l : Fin 1024)

theorem nV_apply : nV X (ix2 r 0) = Ideal.div (∑ k : Fin 1024, X (ix2 r k) * X (ix2 r k)) (Ideal.ofBits .f32 0x44800000#32) + Ideal.ofBits .f32 0x358637BD#32 := by
  pointwise [nV]
theorem nR_apply : nR X (ix2 r 0) = Ideal.rsqrt (nV X (ix2 r 0)) := by
  pointwise [nR]
theorem nQ_apply : nQ X (ix2 r 0) = Ideal.ofBits .f32 0xBF000000#32 * Ideal.div (nR X (ix2 r 0)) (nV X (ix2 r 0)) := by
  pointwise [nQ]
theorem nU_apply : nU P W (ix2 r l) = ∑ j : Fin 5632, P (ix2 r j) * W (ix2 l j) := by
  pointwise [nU]
theorem nT_apply : nT P G W (ix2 r l) = nU P W (ix2 r l) * G (ix1 l) := by
  pointwise [nT]
theorem nG_apply : nG P X W (ix1 l) = ∑ r : Fin 8192, X (ix2 r l) * nR X (ix2 r 0) * nU P W (ix2 r l) := by
  pointwise [nG]
  exact Fin.sum_univ_one _
theorem nC_apply : nC P X G W (ix1 r) = Ideal.div ((∑ k : Fin 1024, X (ix2 r k) * nT P G W (ix2 r k)) * nQ X (ix2 r 0)) (Ideal.ofBits .f32 0x44800000#32) := by
  pointwise [nC]
  exact Fin.sum_univ_one _
theorem nDx_apply : nDx P X Y G W (ix2 r l) = Y (ix2 r l) + nT P G W (ix2 r l) * nR X (ix2 r 0) + X (ix2 r l) * nC P X G W (ix1 r) + nC P X G W (ix1 r) * X (ix2 r l) := by
  pointwise [nDx]
theorem nDb_apply : nDb P X Y G W (ix2 r l) = nDx P X Y G W (ix2 r l) := by
  pointwise [nDb]
theorem nG8_zero : nG8 P X W (ix2 0 l) = nG P X W (ix1 l) := by
  pointwise [nG8]
theorem nG8_rest (k : Fin 8) (hk : 1 ≤ k.val) : nG8 P X W (ix2 k l) = 0 := by
  pointwise [nG8]
  exact dif_neg (by omega)

end Cert.Reference3Ideal.Value

namespace Cert.Norm

open Idealize.ShloMosaic Idealize.ShloMosaic.TcCoe Idealize.SL.Sem
open Cert.Attn (sum_real div_real)
open Cert.Kernel4Ideal.Value (col)

theorem bits_inv : Ideal.ofBits .f32 0x3A800000#32 = ((1 / 1024 : ℝ) : EReal) := by
  simp [Ideal.ofBits, Ideal.ieee, -EReal.coe_mul]; norm_num
theorem bits_len : Ideal.ofBits .f32 0x44800000#32 = ((1024 : ℝ) : EReal) := by
  simp [Ideal.ofBits, Ideal.ieee, -EReal.coe_mul]; norm_num
theorem bits_half : Ideal.ofBits .f32 0xBF000000#32 = ((-(1 / 2) : ℝ) : EReal) := by
  simp [Ideal.ofBits, Ideal.ieee, -EReal.coe_mul]; norm_num
theorem bits_eps : ∃ e : ℝ, 0 < e ∧ Ideal.ofBits .f32 0x358637BD#32 = (e : EReal) := by
  simp only [Ideal.ofBits, Ideal.ieee]
  rw [if_neg (by decide), if_neg (by decide)]
  exact ⟨_, by rw [if_neg (by decide)]; positivity, rfl⟩

/-- The shards' sum is the whole sum. -/
theorem up_eq (P w : Fin 5632 → EReal) : up P (fun k x => w (col k x)) = ∑ j : Fin 5632, P j * w j := by
  have key : ∑ k : Fin 4, ∑ x : Fin 1408, P (col k x) * w (col k x) = ∑ j : Fin 5632, P j * w j :=
    Fin.sum_mul_add_congr fun k x hl => by
      have e : col k x = ⟨k.val * 1408 + x.val, hl⟩ := Fin.ext (by show 1408 * k.val + x.val = k.val * 1408 + x.val; omega)
      rw [e]
  rw [Fin.sum_univ_four] at key
  unfold up
  rw [zero_add]
  exact key

/-- The two scalings of a row's sum of squares agree. -/
theorem rs_eq (X : Fin 1024 → EReal) :
    rs X = Ideal.rsqrt (Ideal.div (∑ k : Fin 1024, X k * X k) (Ideal.ofBits .f32 0x44800000#32) + Ideal.ofBits .f32 0x358637BD#32) := by
  unfold rs
  rw [bits_len, Ideal.div_coe (by norm_num), bits_inv]

/-- Twice an extended real. -/
theorem add_self (z : EReal) : z + z = ((2 : ℝ) : EReal) * z := by
  induction z using EReal.rec with
  | bot => rw [EReal.coe_mul_bot_of_pos (by norm_num)]; rfl
  | top => rw [EReal.coe_mul_top_of_pos (by norm_num)]; rfl
  | coe r => rw [← EReal.coe_add, ← EReal.coe_mul, two_mul]

/-- A nonnegative real number goes out of a sum of extended reals. -/
theorem sum_mul_real {ι : Type*} (s : Finset ι) (f : ι → EReal) (p : ℝ) (hp : 0 ≤ p) : ∑ i ∈ s, f i * (p : EReal) = (∑ i ∈ s, f i) * (p : EReal) := by
  classical
  induction s using Finset.induction_on with
  | empty => simp
  | insert a s ha ih =>
    rw [Finset.sum_insert ha, Finset.sum_insert ha, ih, EReal.right_distrib_of_nonneg_of_ne_top (EReal.coe_nonneg.mpr hp) (EReal.coe_ne_top p)]

/-- A sum of squares with an infinite entry is infinite. -/
theorem sum_sq_top (X : Fin 1024 → EReal) (k : Fin 1024) (h : X k = ⊤ ∨ X k = ⊥) : ∑ k : Fin 1024, X k * X k = ⊤ := by
  have hnn : ∀ i, 0 ≤ X i * X i := fun i => by
    induction X i using EReal.rec with
    | bot => rw [EReal.bot_mul_bot]; exact le_top
    | top => rw [EReal.top_mul_top]; exact le_top
    | coe r => rw [← EReal.coe_mul]; exact EReal.coe_nonneg.mpr (mul_self_nonneg r)
  have hk : X k * X k = ⊤ := by
    rcases h with h | h
    · rw [h, EReal.top_mul_top]
    · rw [h, EReal.bot_mul_bot]
  refine top_le_iff.mp ?_
  rw [← hk]
  exact Finset.single_le_sum (f := fun i => X i * X i) (fun i _ => hnn i) (Finset.mem_univ k)

/-- The kernel's gradient is the derivative the reference takes, whatever the rows hold. -/
theorem dx_eq (X G U : Fin 1024 → EReal) (y : EReal) (l : Fin 1024) (V R C : EReal)
    (hV : V = Ideal.div (∑ k : Fin 1024, X k * X k) (Ideal.ofBits .f32 0x44800000#32) + Ideal.ofBits .f32 0x358637BD#32)
    (hR : R = Ideal.rsqrt V)
    (hC : C = Ideal.div ((∑ k : Fin 1024, X k * (U k * G k)) * (Ideal.ofBits .f32 0xBF000000#32 * Ideal.div R V)) (Ideal.ofBits .f32 0x44800000#32)) :
    y + U l * G l * R + X l * C + C * X l = dx X G U y l := by
  obtain ⟨e, he, hbe⟩ := bits_eps
  have hrs : rs X = R := by rw [rs_eq, hR, hV]
  by_cases hinf : ∃ k, X k = ⊤ ∨ X k = ⊥
  · obtain ⟨k, hk⟩ := hinf
    have hVt : V = ⊤ := by
      rw [hV, sum_sq_top X k hk, bits_len, Ideal.div_coe (by norm_num), EReal.top_mul_coe_of_pos (by norm_num), hbe, EReal.top_add_coe]
    have hR0 : R = 0 := by rw [hR, hVt, Ideal.rsqrt_top]
    have hD0 : Ideal.div R V = 0 := by
      rw [hR0, hVt]
      unfold Ideal.div
      rw [if_neg EReal.top_ne_zero, zero_mul]
    have hC0 : C = 0 := by
      rw [hC, hD0, mul_zero, mul_zero, bits_len, Ideal.div_coe (by norm_num), zero_mul]
    unfold dx
    rw [hrs, hR0, hC0]
    simp only [mul_zero, zero_mul, add_zero, zero_add]
  · have hx : ∀ k, X k = (((X k).toReal : ℝ) : EReal) := fun k =>
      (EReal.coe_toReal (fun h => hinf ⟨k, Or.inl h⟩) (fun h => hinf ⟨k, Or.inr h⟩)).symm
    obtain ⟨x, hxd⟩ : ∃ x : Fin 1024 → ℝ, x = fun k => (X k).toReal := ⟨_, rfl⟩
    have hXx : ∀ k, X k = ((x k : ℝ) : EReal) := fun k => by rw [hxd]; exact hx k
    obtain ⟨v, hv⟩ : ∃ v : ℝ, v = (∑ k, x k * x k) / 1024 + e := ⟨_, rfl⟩
    have hv0 : 0 < v := by
      rw [hv]
      exact add_pos_of_nonneg_of_pos (div_nonneg (Finset.sum_nonneg fun k _ => mul_self_nonneg _) (by norm_num)) he
    have hVr : V = ((v : ℝ) : EReal) := by
      rw [hV, hbe, bits_len]
      simp only [hXx, ← EReal.coe_mul, sum_real]
      rw [div_real _ _ (by norm_num), ← EReal.coe_add, hv]
    obtain ⟨p, hp⟩ : ∃ p : ℝ, p = (Real.sqrt v)⁻¹ := ⟨_, rfl⟩
    have hp0 : 0 ≤ p := by rw [hp]; exact inv_nonneg.mpr (Real.sqrt_nonneg v)
    have hRr : R = ((p : ℝ) : EReal) := by
      rw [hR, hVr, Ideal.rsqrt_coe, if_neg (not_lt.mpr hv0.le), if_neg hv0.ne', hp]
    have hs : Real.sqrt v * Real.sqrt v = v := Real.mul_self_sqrt hv0.le
    have hpv : p / v = p * p * p := by
      have hq : p * p = v⁻¹ := by rw [hp, ← mul_inv, hs]
      rw [div_eq_mul_inv, ← hq, mul_assoc]
    have hsum : ∑ k, U k * G k * (X k * (p : EReal)) = (∑ k, X k * (U k * G k)) * (p : EReal) := by
      rw [← sum_mul_real _ _ p hp0]
      exact Finset.sum_congr rfl fun k _ => by rw [mul_comm (X k) (U k * G k), ← mul_assoc (U k * G k)]
    unfold dx
    rw [hrs, hC, hVr, hRr, bits_len, bits_half, bits_inv, div_real _ _ hv0.ne', hpv, hsum, Ideal.div_coe (by norm_num), hXx l]
    generalize ∑ k, X k * (U k * G k) = w
    generalize U l * G l = t
    have h1 : (p : EReal) * (t - ((x l : ℝ) : EReal) * (p : EReal) * (w * (p : EReal) * ((1 / 1024 : ℝ) : EReal)))
        = t * (p : EReal) + ((-(x l * p * p * p * (1 / 1024)) : ℝ) : EReal) * w := by
      rw [sub_eq_add_neg, EReal.left_distrib_of_nonneg_of_ne_top (EReal.coe_nonneg.mpr hp0) (EReal.coe_ne_top p), mul_comm (p : EReal) t, mul_neg, EReal.coe_neg, EReal.neg_mul]
      refine congrArg (fun z : EReal => t * (p : EReal) + -z) ?_
      simp only [EReal.coe_mul]
      ac_rfl
    have h2 : ((x l : ℝ) : EReal) * (w * (((-(1 / 2) : ℝ) : EReal) * ((p * p * p : ℝ) : EReal)) * ((1 / 1024 : ℝ) : EReal))
        = ((x l * -(1 / 2) * (p * p * p) * (1 / 1024) : ℝ) : EReal) * w := by
      simp only [EReal.coe_mul]
      ac_rfl
    have h3 : w * (((-(1 / 2) : ℝ) : EReal) * ((p * p * p : ℝ) : EReal)) * ((1 / 1024 : ℝ) : EReal) * ((x l : ℝ) : EReal)
        = ((x l * -(1 / 2) * (p * p * p) * (1 / 1024) : ℝ) : EReal) * w := by
      simp only [EReal.coe_mul]
      ac_rfl
    rw [h1, h2, h3, add_assoc (y + t * (p : EReal)), add_self, ← mul_assoc, ← EReal.coe_mul,
      show (2 : ℝ) * (x l * -(1 / 2) * (p * p * p) * (1 / 1024)) = -(x l * p * p * p * (1 / 1024)) by ring]
    rw [add_comm (t * (p : EReal) + _) y, ← add_assoc]

open Cert.Reference3Ideal.Value
open Cert.Kernel3Ideal.Value (dxE ggE firstRow)

section
variable (P : FVec Ideal Cert.Kernel3Ideal.S8192x5632 .f32) (X Y : FVec Ideal Cert.Kernel3Ideal.S8192x1024 .f32) (G : FVec Ideal Cert.Kernel3Ideal.S1024 .f32)
    (W : FVec Ideal Cert.Kernel3Ideal.S1024x5632 .f32)
    (P' : FVec Ideal Cert.Kernel3Ideal.S8192x5632 .bf16) (X' Y' : FVec Ideal Cert.Kernel3Ideal.S8192x1024 .f32) (G' : FVec Ideal Cert.Kernel3Ideal.S1x1024 .f32)
    (W' : FVec Ideal Cert.Kernel3Ideal.S4x1024x1408 .bf16)
    (hP : ∀ r j, P' (ix2 r j) = P (ix2 r j)) (hX : ∀ r l, X' (ix2 r l) = X (ix2 r l)) (hY : ∀ r l, Y' (ix2 r l) = Y (ix2 r l))
    (hG : ∀ l, G' (ix2 0 l) = G (ix1 l)) (hW : ∀ k l x, W' (ix3 k l x) = W (ix2 l (col k x)))
include hP hX hW

theorem up_row (r : Fin 8192) (l : Fin 1024) : up (fun j => P' (ix2 r j)) (fun s x => W' (ix3 s l x)) = nU P W (ix2 r l) := by
  rw [nU_apply, ← up_eq (fun j => P (ix2 r j)) (fun j => W (ix2 l j))]
  exact up_congr (fun j => hP r j) (fun s x => hW s l x)

theorem gg_row (r : Fin 8192) (l : Fin 1024) : ggE P' X' W' r l = X (ix2 r l) * nR X (ix2 r 0) * nU P W (ix2 r l) := by
  have hrow : rs (fun k => X' (ix2 r k)) = nR X (ix2 r 0) := by
    rw [nR_apply, nV_apply, rs_eq]
    simp only [hX]
  unfold ggE gg
  rw [up_row P X W P' X' W' hP hX hW, hrow]
  dsimp only
  rw [hX]
  exact mul_comm _ _

include hY hG

theorem dx_row (r : Fin 8192) (l : Fin 1024) : nDx P X Y G W (ix2 r l) = dxE P' X' Y' G' W' r l := by
  have key := dx_eq (fun k => X (ix2 r k)) (fun k => G (ix1 k)) (fun k => nU P W (ix2 r k)) (Y (ix2 r l)) l (nV X (ix2 r 0)) (nR X (ix2 r 0)) (nC P X G W (ix1 r))
    (nV_apply X r) (nR_apply X r) (by rw [nC_apply, nQ_apply]; simp only [nT_apply])
  rw [nDx_apply, nT_apply]
  exact key.trans (dx_congr l (fun k => (hX r k).symm) (fun k => (hG k).symm) (fun k => (up_row P X W P' X' W' hP hX hW r k).symm) (hY r l).symm)

end

variable (m : (ℓ : Loc Cert.Kernel3Ideal.nD Cert.Kernel3Ideal.τ Cert.Kernel3Ideal.sig) → Buf (Elt Ideal) ℓ) (c : Dev Cert.Kernel3Ideal.nD)

/-- The kernel's three result arrays are the reference's. -/
theorem gradients (P : FVec Ideal Cert.Kernel3Ideal.S8192x5632 .f32) (X Y : FVec Ideal Cert.Kernel3Ideal.S8192x1024 .f32) (G : FVec Ideal Cert.Kernel3Ideal.S1024 .f32)
    (W : FVec Ideal Cert.Kernel3Ideal.S1024x5632 .f32)
    (mP : m ((c.tc : Thread Cert.Kernel3Ideal.nD Cert.Kernel3Ideal.τ).loc Cert.Kernel3Ideal.main_arg0) = P)
    (mX : m ((c.tc : Thread Cert.Kernel3Ideal.nD Cert.Kernel3Ideal.τ).loc Cert.Kernel3Ideal.main_arg1) = X)
    (mY : m ((c.tc : Thread Cert.Kernel3Ideal.nD Cert.Kernel3Ideal.τ).loc Cert.Kernel3Ideal.main_arg2) = Y)
    (mG : m ((c.tc : Thread Cert.Kernel3Ideal.nD Cert.Kernel3Ideal.τ).loc Cert.Kernel3Ideal.main_arg3) = G)
    (mW : m ((c.tc : Thread Cert.Kernel3Ideal.nD Cert.Kernel3Ideal.τ).loc Cert.Kernel3Ideal.main_arg4) = W) :
    nDx P X Y G W = (Cert.Kernel3Ideal.Gen.dats m 0 c).arrAt 5 Cert.Kernel3Ideal.cfg0.N
      ∧ nDb P X Y G W = (Cert.Kernel3Ideal.Gen.dats m 0 c).arrAt 6 Cert.Kernel3Ideal.cfg0.N
      ∧ nG8 P X W = (Cert.Kernel3Ideal.Gen.dats m 0 c).arrAt 7 Cert.Kernel3Ideal.cfg0.N := by
  have hP : ∀ r j, Cert.Kernel3Ideal.Gen.V m c Cert.Kernel3Ideal.main_v2 (ix2 r j) = P (ix2 r j) := fun r j =>
    (Cert.Kernel3Ideal.Value.v2_apply c m r j).trans (congrFun mP _)
  have hX : ∀ r l, Cert.Kernel3Ideal.Gen.V m c Cert.Kernel3Ideal.main_arg1 (ix2 r l) = X (ix2 r l) := fun r l =>
    (Cert.Kernel3Ideal.Value.arg1_apply c m r l).trans (congrFun mX _)
  have hY : ∀ r l, Cert.Kernel3Ideal.Gen.V m c Cert.Kernel3Ideal.main_arg2 (ix2 r l) = Y (ix2 r l) := fun r l =>
    (Cert.Kernel3Ideal.Value.arg2_apply c m r l).trans (congrFun mY _)
  have hG : ∀ l, Cert.Kernel3Ideal.Gen.V m c Cert.Kernel3Ideal.main_v3 (ix2 0 l) = G (ix1 l) := fun l =>
    (Cert.Kernel3Ideal.Value.v3_apply c m l).trans (congrFun mG _)
  have hW : ∀ k l x, Cert.Kernel3Ideal.Gen.V m c Cert.Kernel3Ideal.main_v4 (ix3 k l x) = W (ix2 l (col k x)) := fun k l x =>
    (Cert.Kernel3Ideal.Value.v4_apply c m k l x).trans (congrFun mW _)
  have key := dx_row P X Y G W _ _ _ _ _ hP hX hY hG hW
  refine ⟨?_, ?_, ?_⟩
  · refine Eq.trans ?_ (Cert.Kernel3Ideal.Value.final5 c m).symm
    funext y
    rw [eq_ix2 y]
    exact key _ _
  · refine Eq.trans ?_ (Cert.Kernel3Ideal.Value.final6 c m).symm
    funext y
    rw [eq_ix2 y]
    exact (nDb_apply P X Y G W _ _).trans (key _ _)
  · refine Eq.trans ?_ (Cert.Kernel3Ideal.Value.final7 c m).symm
    funext y
    obtain ⟨k, l, rfl⟩ : ∃ (k : Fin 8) (l : Fin 1024), y = ix2 k l := ⟨_, _, eq_ix2 y⟩
    show nG8 P X W (ix2 k l) = firstRow k _
    unfold firstRow
    by_cases hk : 1 ≤ k.val
    · rw [if_pos hk]
      exact nG8_rest P X W l k hk
    · rw [if_neg hk]
      obtain rfl : k = 0 := Fin.ext (by show k.val = 0; omega)
      rw [nG8_zero, nG_apply]
      exact Finset.sum_congr rfl fun r _ => (gg_row P X W _ _ _ hP hX hW r l).symm

end Cert.Norm
end
-- ==== Proof.GradDown.lean ====
/- The gradient of the down projection's weights: what the kernel leaves in its result array, entry by entry. -/
module

public import proofs.«01_k».proof.Proof.Trip
public import proofs.«01_k».proof.Proof.Gen.Kernel5Ideal.Frame

@[expose] public section

set_option maxRecDepth 16384

noncomputable section

namespace Cert.Kernel5Ideal.Value

open Cert.Kernel5Ideal Cert.Kernel5Ideal.Gen
open Idealize.ShloMosaic Idealize.ShloMosaic.TcCoe Idealize.SL.Sem
open Cert.KernelIdeal.Value (ld_at)

theorem pay1_apply (a : Fin 1408) (b : Fin 1024) : k0_pay1 (F := Ideal) (ix2 a b) = 0 := by
  pointwise [k0_pay1]

theorem pay2_apply (v3 : Vec Ideal S1408x1024 .f32) (v4 : Vec Ideal S2048x1408 .bf16) (v6 : Vec Ideal S2048x1024 .bf16) (a : Fin 1408) (b : Fin 1024) :
    k0_pay2 v3 v4 v6 (ix2 a b) = v3 (ix2 a b) + ∑ r : Fin 2048, v4 (ix2 r a) * v6 (ix2 r b) := by
  pointwise [k0_pay2]

theorem pay3_apply (v16 : Vec Ideal S1408x1024 .f32) (a : Fin 1408) (b : Fin 1024) : k0_pay3 v16 (ix2 a b) = v16 (ix2 a b) := by
  pointwise [k0_pay3]

theorem ix2_at {n0 n1 : ℕ} (a : Fin n0) (b : Fin n1) (j : Fin 2) : ((ix2 a b : (⟨2, ![n0, n1]⟩ : Shape).Idx) j).val = (![0, 0] : Fin 2 → ℕ) j + ((ix2 a b : (⟨2, ![n0, n1]⟩ : Shape).Idx) j).val := by
  match j with
  | 0 => exact (Nat.zero_add _).symm
  | 1 => exact (Nat.zero_add _).symm

variable (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole)
  (x0 : Vec Ideal S2048x1408 .bf16) (x1 : Vec Ideal S2048x1024 .bf16) (xs0 : Vec Ideal S1408x1024 .f32)

/-- The step's sum read from the two whole blocks. -/
theorem terms (a : Fin 1408) (b : Fin 1024) :
    (∑ r : Fin 2048, arg3.view.readAt (Elt Ideal) (Rect.unit (s := S2048x1408) ![0, 0] S2048x1408.size inb_S2048x1408_S2048x1408_0_0).toLoadRect (harg3.unread x0) (ix2 r a)
        * arg4.view.readAt (Elt Ideal) (Rect.unit (s := S2048x1024) ![0, 0] S2048x1024.size inb_S2048x1024_S2048x1024_0_0).toLoadRect (harg4.unread x1) (ix2 r b))
      = ∑ r : Fin 2048, x0 (ix2 r a) * x1 (ix2 r b) :=
  Finset.sum_congr rfl fun r _ => congrArg₂ (fun p q : EReal => p * q)
    ((ld_at arg3.view _ rfl _ (ix2 r a) (ix2_at r a)).trans (congrFun (harg3.read_unread x0) _))
    ((ld_at arg4.view _ rfl _ (ix2 r b) (ix2_at r b)).trans (congrFun (harg4.read_unread x1) _))

theorem soutA (hc0 : cond0_0 i) (hc1 : ¬cond0_1 i) (a : Fin 1408) (b : Fin 1024) :
    sout0_A_0 c i arg3 harg3 arg4 harg4 arg5 harg5 arg6 harg6 hc0 hc1 x0 x1 (ix2 a b) = 0 + ∑ r : Fin 2048, x0 (ix2 r a) * x1 (ix2 r b) := by
  unfold sout0_A_0 kernelRun0_A
  dsimp only
  sl_unfold_words
  refine (View.read_writes_cons_unit_of_mem _ _ _ _ _ _ (ix2 a b) rfl (ix2_at a b)).trans ?_
  refine (pay2_apply _ _ _ a b).trans (congrArg₂ (fun p q : EReal => p + q) ?_ (terms arg3 harg3 arg4 harg4 x0 x1 a b))
  rw [View.readCov_cons_toLoadRect]
  exact pay1_apply a b

theorem soutB (hc0 : ¬cond0_0 i) (hc1 : ¬cond0_1 i) (a : Fin 1408) (b : Fin 1024) :
    sout0_B_0 c i arg3 harg3 arg4 harg4 arg5 harg5 arg6 harg6 hc0 hc1 x0 x1 xs0 (ix2 a b) = xs0 (ix2 a b) + ∑ r : Fin 2048, x0 (ix2 r a) * x1 (ix2 r b) := by
  unfold sout0_B_0 kernelRun0_B
  dsimp only
  sl_unfold_words
  refine (View.read_writes_cons_unit_of_mem _ _ _ _ _ _ (ix2 a b) rfl (ix2_at a b)).trans ?_
  refine (pay2_apply _ _ _ a b).trans (congrArg₂ (fun p q : EReal => p + q) ?_ (terms arg3 harg3 arg4 harg4 x0 x1 a b))
  exact (ld_at arg6.view _ rfl _ (ix2 a b) (ix2_at a b)).trans (congrFun (harg6.read_unread xs0) _)

theorem soutC (hc0 : ¬cond0_0 i) (hc1 : cond0_1 i) (a : Fin 1408) (b : Fin 1024) :
    sout0_C_0 c i arg3 harg3 arg4 harg4 arg5 harg5 arg6 harg6 hc0 hc1 x0 x1 xs0 (ix2 a b) = xs0 (ix2 a b) + ∑ r : Fin 2048, x0 (ix2 r a) * x1 (ix2 r b) := by
  unfold sout0_C_0 kernelRun0_C
  dsimp only
  sl_unfold_words
  refine (View.read_writes_cons_unit_of_mem _ _ _ _ _ _ (ix2 a b) rfl (ix2_at a b)).trans ?_
  refine (pay2_apply _ _ _ a b).trans (congrArg₂ (fun p q : EReal => p + q) ?_ (terms arg3 harg3 arg4 harg4 x0 x1 a b))
  exact (ld_at arg6.view _ rfl _ (ix2 a b) (ix2_at a b)).trans (congrFun (harg6.read_unread xs0) _)

theorem outC (hc0 : ¬cond0_0 i) (hc1 : cond0_1 i) (a : Fin 1408) (b : Fin 1024) :
    out0_C_2 c i arg3 harg3 arg4 harg4 arg5 harg5 arg6 harg6 hc0 hc1 x0 x1 xs0 (ix2 a b) = xs0 (ix2 a b) + ∑ r : Fin 2048, x0 (ix2 r a) * x1 (ix2 r b) := by
  unfold out0_C_2 kernelRun0_C
  dsimp only
  sl_unfold_words
  refine (View.read_writes_cons_unit_of_mem _ _ _ _ _ _ (ix2 a b) rfl ?_).trans ?_
  · intro j; match j with
    | 0 => exact (Nat.zero_add _).symm
    | 1 => exact (Nat.zero_add _).symm
  refine (pay3_apply _ a b).trans ?_
  rw [View.readCov_cons_toLoadRect]
  refine (pay2_apply _ _ _ a b).trans (congrArg₂ (fun p q : EReal => p + q) ?_ (terms arg3 harg3 arg4 harg4 x0 x1 a b))
  exact (ld_at arg6.view _ rfl _ (ix2 a b) (ix2_at a b)).trans (congrFun (harg6.read_unread xs0) _)

variable (m : (ℓ : Loc nD τ sig) → Buf (Elt Ideal) ℓ)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem N8 : cfg0.N = 8 := by decide +kernel

/-- A row of the argument arrays, from a grid point and a row of its block. -/
def gr (t : Fin cfg0.N) (r : Fin 2048) : Fin 8192 := ⟨2048 * (t.val % 4) + r.val, by omega⟩
/-- A column of the first argument array, from a grid point and a column of its block. -/
def gc (t : Fin cfg0.N) (b : Fin 1408) : Fin 2816 := ⟨1408 * (t.val / 4) + b.val, by have := t.isLt; have := N8; omega⟩

theorem blk0 (t : Fin cfg0.N) (r : Fin 2048) (a : Fin 1408) : iblk m c 0 t (ix2 r a) = V m c main_v0 (ix2 (gr t r) (gc t a)) := by
  unfold gr gc
  blk_point [iblk, idx t]
theorem blk1 (t : Fin cfg0.N) (r : Fin 2048) (b : Fin 1024) : iblk m c 1 t (ix2 r b) = V m c main_v1 (ix2 (gr t r) b) := by
  unfold gr
  blk_point [iblk, idx t]

/-- The products of two blocks' columns, summed over the rows of a block. -/
def prod (x0 : FVec Ideal S2048x1408 .bf16) (x1 : FVec Ideal S2048x1024 .bf16) (a : Fin 1408) (b : Fin 1024) : EReal :=
  ∑ r : Fin 2048, x0 (ix2 r a) * x1 (ix2 r b)

/-- What one grid point adds. -/
def step (A : FVec Ideal S8192x2816 .bf16) (B : FVec Ideal S8192x1024 .bf16) (t : Fin cfg0.N) (a : Fin 1408) (b : Fin 1024) : EReal :=
  ∑ r : Fin 2048, A (ix2 (gr t r) (gc t a)) * B (ix2 (gr t r) b)

/-- The products of two columns, summed over all the rows. -/
def whole (A : FVec Ideal S8192x2816 .bf16) (B : FVec Ideal S8192x1024 .bf16) (a : Fin 2816) (b : Fin 1024) : EReal :=
  ∑ r : Fin 8192, A (ix2 r a) * B (ix2 r b)

theorem step_eq (t : Fin cfg0.N) (a : Fin 1408) (b : Fin 1024) :
    prod (iblk m c 0 t) (iblk m c 1 t) a b = step (V m c main_v0) (V m c main_v1) t a b :=
  Finset.sum_congr rfl fun r _ => congrArg₂ (fun p q : EReal => p * q) (blk0 c m t r a) (blk1 c m t r b)

theorem scratch (t : Fin cfg0.N) (ht : t.val % 4 = 3) (a : Fin 1408) (b : Fin 1024) :
    (outsAt0 m c t.val t.isLt).2 (ix2 a b) = whole (V m c main_v0) (V m c main_v1) (gc t a) b := by
  have key := Pipeline.eq_sum_fin_of_reset_step_apply_of_flush (M := EReal) (fun n h (i : Fin 1408 × Fin 1024) => (outsAt0 m c n h).2 (ix2 i.1 i.2)) 4 (fun _ => 0)
    (fun t i => step (V m c main_v0) (V m c main_v1) t i.1 i.2)
    (fun t h0 i => by
      obtain ⟨a, b⟩ := i
      dsimp only
      rw [outsAt0_A m c t h0 (by omega)]
      dsimp only
      refine (soutA _ _ _ _ _ _ _ _ _ _ _ _ _ _ a b).trans ?_
      exact congrArg (fun z : EReal => 0 + z) (step_eq c m t a b))
    (fun t h0 i => by
      obtain ⟨a, b⟩ := i
      dsimp only
      by_cases h1 : t.val % 4 = 3
      · rw [outsAt0_C m c t h0 h1]
        dsimp only
        refine (soutC _ _ _ _ _ _ _ _ _ _ _ _ _ _ _ a b).trans ?_
        exact congrArg (fun z : EReal => _ + z) (step_eq c m t a b)
      · rw [outsAt0_B m c t h0 h1]
        dsimp only
        refine (soutB _ _ _ _ _ _ _ _ _ _ _ _ _ _ _ a b).trans ?_
        exact congrArg (fun z : EReal => _ + z) (step_eq c m t a b))
    t ht (a, b)
  refine key.trans ((zero_add _).trans ?_)
  refine Fin.sum_mul_add_congr fun s k hl => ?_
  have ec : gc ⟨4 * (t.val / 4) + s.val, Pipeline.run_point_lt_of_flush t ht s⟩ a = gc t a := Fin.ext (by simp only [gc]; omega)
  have er : gr ⟨4 * (t.val / 4) + s.val, Pipeline.run_point_lt_of_flush t ht s⟩ k = ⟨s.val * 2048 + k.val, hl⟩ := Fin.ext (by simp only [gr]; omega)
  rw [ec, er]

theorem written (t : Fin cfg0.N) (ht : t.val % 4 = 3) (a : Fin 1408) (b : Fin 1024) :
    (outsAt0 m c t.val t.isLt).1 (ix2 a b) = (outsAt0 m c t.val t.isLt).2 (ix2 a b) := by
  rw [outsAt0_C m c t (by omega) ht]
  dsimp only
  exact (outC _ _ _ _ _ _ _ _ _ _ _ _ _ _ _ a b).trans (soutC _ _ _ _ _ _ _ _ _ _ _ _ _ _ _ a b).symm

/-- The kernel's result array. -/
theorem final : (dats m 0 c).arrAt 2 cfg0.N = fun y : S2816x1024.Idx => whole (V m c main_v0) (V m c main_v1) (y 0) (y 1) := by
  refine (dats m 0 c).arrAt_eq_of_covers 2 _ (by decide +kernel) fun t hf y => ?_
  have ht : t.val % 4 = 3 := (flush0_2 t).1 hf
  blk_simp
  rw [after0_2]
  obtain ⟨a, b, rfl⟩ : ∃ (a : Fin 1408) (b : Fin 1024), y = ix2 a b := ⟨_, _, eq_ix2 y⟩
  have e0 : ((win0_2.blk t).view.emb (ix2 a b) 0).val = 1408 * (t.val / 4) + a.val := by blk_simp [idx t]; simp; omega
  have e1 : (win0_2.blk t).view.emb (ix2 a b) 1 = b := Fin.ext (by blk_simp [idx t])
  have ec : (win0_2.blk t).view.emb (ix2 a b) 0 = gc t a := Fin.ext e0
  rw [e1, ec]
  exact (written c m t ht a b).trans (scratch c m t ht a b)

theorem v0_apply (r : Fin 8192) (x : Fin 2816) : V m c main_v0 (ix2 r x) = m ((c : Thread nD τ).loc main_arg0) (ix2 r x) := by
  entry_read
  pointwise
theorem v1_apply (r : Fin 8192) (x : Fin 1024) : V m c main_v1 (ix2 r x) = m ((c : Thread nD τ).loc main_arg1) (ix2 r x) := by
  entry_read
  pointwise

end Cert.Kernel5Ideal.Value

end
-- ==== Proof.Weights.lean ====
/- The gradients of the two projections' weights: the kernels' result arrays are the references'. -/
module

public import proofs.«01_k».proof.Proof.GradUp
public import proofs.«01_k».proof.Proof.GradDown
public import proofs.«01_k».proof.Proof.Gen.Reference5Ideal.Run

@[expose] public section

set_option maxRecDepth 16384

noncomputable section

namespace Cert.Reference4Ideal.Value

open Cert.Reference4Ideal Cert.Reference4Ideal.Gen
open Idealize.ShloMosaic Idealize.ShloMosaic.TcCoe Idealize.SL.Sem
open Cert.Kernel4Ideal.Value (col)

/-- The reference's gradient of the up projection, of the two arguments. -/
def rUp (H : FVec Ideal S8192x1024 .f32) (D : FVec Ideal S8192x5632 .f32) : FVec Ideal S4x1024x1408 .bf16 :=
  truncf .bf16 (transpose S4x1024x1408 [1, 0, 2] (shapeCast S1024x4x1408 (transpose S1024x5632 [1, 0] (Host.dotGeneral dot_S8192x5632_S8192x1024_S5632x1024_0_0_1_1_n_n none D H) transposes_S5632x1024_S1024x5632_1_0) shapeCasts_S1024x5632_S1024x4x1408) transposes_S1024x4x1408_S4x1024x1408_1_0_2) bitsLt_bf16_f32

theorem rUp_apply (H : FVec Ideal S8192x1024 .f32) (D : FVec Ideal S8192x5632 .f32) (j : Fin 4) (a : Fin 1024) (b : Fin 1408) :
    rUp H D (ix3 j a b) = ∑ r : Fin 8192, D (ix2 r (col j b)) * H (ix2 r a) := by
  pointwise [rUp]
  refine Finset.sum_congr rfl fun r _ => congrArg (fun z : Fin 5632 => D (ix2 r z) * H (ix2 r a)) (Fin.ext ?_)
  show j.val * 1408 + b.val = 1408 * j.val + b.val
  omega

end Cert.Reference4Ideal.Value

namespace Cert.Reference5Ideal.Value

open Cert.Reference5Ideal Cert.Reference5Ideal.Gen
open Idealize.ShloMosaic Idealize.ShloMosaic.TcCoe Idealize.SL.Sem

/-- The reference's gradient of the down projection, of the two arguments. -/
def rDown (A : FVec Ideal S8192x2816 .f32) (D : FVec Ideal S8192x1024 .f32) : FVec Ideal S2816x1024 .bf16 :=
  truncf .bf16 (transpose S2816x1024 [1, 0] (Host.dotGeneral dot_S8192x1024_S8192x2816_S1024x2816_0_0_1_1_n_n none D A) transposes_S1024x2816_S2816x1024_1_0) bitsLt_bf16_f32

theorem rDown_apply (A : FVec Ideal S8192x2816 .f32) (D : FVec Ideal S8192x1024 .f32) (a : Fin 2816) (b : Fin 1024) :
    rDown A D (ix2 a b) = ∑ r : Fin 8192, D (ix2 r b) * A (ix2 r a) := by
  pointwise [rDown]

end Cert.Reference5Ideal.Value

namespace Cert.Weights

open Idealize.ShloMosaic Idealize.ShloMosaic.TcCoe Idealize.SL.Sem
open Cert.Kernel4Ideal.Value (col)
open Cert.Reference4Ideal.Value (rUp rUp_apply)
open Cert.Reference5Ideal.Value (rDown rDown_apply)

/-- The kernel's gradient of the up projection is the reference's. -/
theorem up (m : (ℓ : Loc Cert.Kernel4Ideal.nD Cert.Kernel4Ideal.τ Cert.Kernel4Ideal.sig) → Buf (Elt Ideal) ℓ) (c : Dev Cert.Kernel4Ideal.nD)
    (H : FVec Ideal Cert.Kernel4Ideal.S8192x1024 .f32) (D : FVec Ideal Cert.Kernel4Ideal.S8192x5632 .f32)
    (mH : m ((c.tc : Thread Cert.Kernel4Ideal.nD Cert.Kernel4Ideal.τ).loc Cert.Kernel4Ideal.main_arg0) = H)
    (mD : m ((c.tc : Thread Cert.Kernel4Ideal.nD Cert.Kernel4Ideal.τ).loc Cert.Kernel4Ideal.main_arg1) = D) :
    rUp H D = (Cert.Kernel4Ideal.Gen.dats m 0 c).arrAt 2 Cert.Kernel4Ideal.cfg0.N := by
  refine Eq.trans ?_ (Cert.Kernel4Ideal.Value.final c m).symm
  funext y
  obtain ⟨j, a, b, rfl⟩ : ∃ (j : Fin 4) (a : Fin 1024) (b : Fin 1408), y = ix3 j a b := ⟨_, _, _, eq_ix3 y⟩
  refine (rUp_apply H D j a b).trans (Finset.sum_congr rfl fun r _ => (mul_comm _ _).trans ?_)
  exact congrArg₂ (fun p q : EReal => p * q) ((congrFun mH _).symm.trans (Cert.Kernel4Ideal.Value.v0_apply c m r a).symm)
    ((congrFun mD _).symm.trans (Cert.Kernel4Ideal.Value.v1_apply c m r (col j b)).symm)

/-- The kernel's gradient of the down projection is the reference's. -/
theorem down (m : (ℓ : Loc Cert.Kernel5Ideal.nD Cert.Kernel5Ideal.τ Cert.Kernel5Ideal.sig) → Buf (Elt Ideal) ℓ) (c : Dev Cert.Kernel5Ideal.nD)
    (A : FVec Ideal Cert.Kernel5Ideal.S8192x2816 .f32) (D : FVec Ideal Cert.Kernel5Ideal.S8192x1024 .f32)
    (mA : m ((c.tc : Thread Cert.Kernel5Ideal.nD Cert.Kernel5Ideal.τ).loc Cert.Kernel5Ideal.main_arg0) = A)
    (mD : m ((c.tc : Thread Cert.Kernel5Ideal.nD Cert.Kernel5Ideal.τ).loc Cert.Kernel5Ideal.main_arg1) = D) :
    rDown A D = (Cert.Kernel5Ideal.Gen.dats m 0 c).arrAt 2 Cert.Kernel5Ideal.cfg0.N := by
  refine Eq.trans ?_ (Cert.Kernel5Ideal.Value.final c m).symm
  funext y
  obtain ⟨a, b, rfl⟩ : ∃ (a : Fin 2816) (b : Fin 1024), y = ix2 a b := ⟨_, _, eq_ix2 y⟩
  refine (rDown_apply A D a b).trans (Finset.sum_congr rfl fun r _ => (mul_comm _ _).trans ?_)
  exact congrArg₂ (fun p q : EReal => p * q) ((congrFun mA _).symm.trans (Cert.Kernel5Ideal.Value.v0_apply c m r a).symm)
    ((congrFun mD _).symm.trans (Cert.Kernel5Ideal.Value.v1_apply c m r b).symm)

end Cert.Weights
end
-- ==== Proof.lean ====
module

public import proofs.«01_k».proof.Defs
public import proofs.«01_k».proof.Proof.Main
public import proofs.«01_k».proof.Proof.Forward
public import proofs.«01_k».proof.Proof.Norm
public import proofs.«01_k».proof.Proof.Weights
public import Idealize.ShloMosaic.Lib.Claim
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import Idealize.ShloMosaic.Adequacy
public import Idealize.ShloMosaic.Init

@[expose] public section

noncomputable section

namespace Cert.Proof

open Idealize.ShloMosaic Idealize.SL.Sem Cert.Kernel

/-- The reference runs, its arguments end unchanged and every counter reads zero: it declares no semaphore. -/
theorem reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, Idealize.ShloMosaic.sem_eq_zero_of_no_sems (by decide) r.2⟩)
    (Cert.ReferenceIdeal.Value.run (F := Ideal) m g)

/-- The reference runs, its arguments end unchanged and every counter reads zero: it declares no semaphore. -/
theorem reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0) :=
  (θ_run Cert.Reference2Ideal.defs _ _).mono (fun r h => ⟨fun c => (h c).2.2, Idealize.ShloMosaic.sem_eq_zero_of_no_sems (by decide) r.2⟩)
    (Cert.Reference2Ideal.Value.run (F := Ideal) m g)

/-- The reference runs, its arguments end unchanged and every counter reads zero: it declares no semaphore. -/
theorem reference3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run Cert.Reference3Ideal.defs _ _).mono (fun r h => ⟨fun c => (h c).2.2.2, Idealize.ShloMosaic.sem_eq_zero_of_no_sems (by decide) r.2⟩)
    (Cert.Reference3Ideal.Value.run (F := Ideal) m g)

/-- The reference runs, its arguments end unchanged and every counter reads zero: it declares no semaphore. -/
theorem reference4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run Cert.Reference4Ideal.defs _ _).mono (fun r h => ⟨fun c => (h c).2, Idealize.ShloMosaic.sem_eq_zero_of_no_sems (by decide) r.2⟩)
    (Cert.Reference4Ideal.Value.run (F := Ideal) m g)

/-- The reference runs, its arguments end unchanged and every counter reads zero: it declares no semaphore. -/
theorem reference5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run Cert.Reference5Ideal.defs _ _).mono (fun r h => ⟨fun c => (h c).2, Idealize.ShloMosaic.sem_eq_zero_of_no_sems (by decide) r.2⟩)
    (Cert.Reference5Ideal.Value.run (F := Ideal) m g)

theorem algebraic : Cert.algebraic_KernelIdeal_ReferenceIdeal_pre_finite := by
  intro m g m' g' hpre hagree
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, ?_, ?_⟩
  · exact (θ_run Cert.KernelIdeal.defs _ _).mono (fun r h c => ⟨(h.1 c).1 6, (h.1 c).1 7, (h.1 c).1 8, h.2 c⟩)
      (θ_run_and (Cert.KernelIdeal.Gen.run_main (F := Ideal) m g) (Cert.KernelIdeal.Gen.unchanged (F := Ideal) m g))
  · refine (θ_run Cert.ReferenceIdeal.defs _ _).mono (fun r h c => ?_) (Cert.ReferenceIdeal.Value.run (F := Ideal) m' g')
    obtain ⟨h0, h1, h2, hargs⟩ := h c
    obtain ⟨a0, a1, a2, a3⟩ := hagree c
    obtain ⟨g0, g1, g2⟩ := Cert.Attn.gradients m c _ _ _ _ a0.symm a1.symm a2.symm a3.symm (by rw [a0, a1, a2, a3]; exact hpre c)
    exact ⟨(h0.trans (Cert.ReferenceIdeal.Value.res60_eq m' c)).trans g0, (h1.trans (Cert.ReferenceIdeal.Value.res63_eq m' c)).trans g1,
      h2.trans g2, hargs⟩

theorem algebraic2 : Cert.algebraic_Kernel2Ideal_Reference2Ideal_pre_finite2 := by
  intro m g m' g' hpre hagree
  refine ⟨fun c => (Cert.Kernel2Ideal.Gen.dats m 0 c).arrAt 3 Cert.Kernel2Ideal.cfg0.N, fun c => (Cert.Kernel2Ideal.Gen.dats m 0 c).arrAt 4 Cert.Kernel2Ideal.cfg0.N, ?_, ?_⟩
  · exact (θ_run Cert.Kernel2Ideal.defs _ _).mono (fun r h c => ⟨(h.1 c).1 3, (h.1 c).1 4, h.2 c⟩)
      (θ_run_and (Cert.Kernel2Ideal.Gen.run_main (F := Ideal) m g) (Cert.Kernel2Ideal.Gen.unchanged (F := Ideal) m g))
  · refine (θ_run Cert.Reference2Ideal.defs _ _).mono (fun r h c => ?_) (Cert.Reference2Ideal.Value.run (F := Ideal) m' g')
    obtain ⟨h0, h1, hargs⟩ := h c
    obtain ⟨a0, a1, a2⟩ := hagree c
    obtain ⟨g0, g1⟩ := Cert.Forward.results m c _ _ _ a0.symm a1.symm a2.symm (by rw [a0, a1, a2]; exact hpre c)
    exact ⟨h0.trans g0, h1.trans g1, hargs⟩

theorem algebraic3 : Cert.algebraic_Kernel3Ideal_Reference3Ideal := by
  intro m g m' g' _ hagree
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N,
    fun c => (Cert.Kernel3Ideal.Gen.dats m 0 c).arrAt 7 Cert.Kernel3Ideal.cfg0.N, ?_, ?_⟩
  · exact (θ_run Cert.Kernel3Ideal.defs _ _).mono (fun r h c => ⟨(h.1 c).1 5, (h.1 c).1 6, (h.1 c).1 7, h.2 c⟩)
      (θ_run_and (Cert.Kernel3Ideal.Gen.run_main (F := Ideal) m g) (Cert.Kernel3Ideal.Gen.unchanged (F := Ideal) m g))
  · refine (θ_run Cert.Reference3Ideal.defs _ _).mono (fun r h c => ?_) (Cert.Reference3Ideal.Value.run (F := Ideal) m' g')
    obtain ⟨h0, h1, h2, hargs⟩ := h c
    obtain ⟨a0, a1, a2, a3, a4⟩ := hagree c
    obtain ⟨g0, g1, g2⟩ := Cert.Norm.gradients m c _ _ _ _ _ a0.symm a1.symm a2.symm a3.symm a4.symm
    exact ⟨(h0.trans (Cert.Reference3Ideal.Value.res38_eq m' c)).trans g0, (h1.trans (Cert.Reference3Ideal.Value.res39_eq m' c)).trans g1,
      h2.trans g2, hargs⟩

theorem algebraic4 : Cert.algebraic_Kernel4Ideal_Reference4Ideal := by
  intro m g m' g' _ hagree
  refine ⟨fun c => (Cert.Kernel4Ideal.Gen.dats m 0 c).arrAt 2 Cert.Kernel4Ideal.cfg0.N, ?_, ?_⟩
  · exact (θ_run Cert.Kernel4Ideal.defs _ _).mono (fun r h c => ⟨(h.1 c).1 2, h.2 c⟩)
      (θ_run_and (Cert.Kernel4Ideal.Gen.run_main (F := Ideal) m g) (Cert.Kernel4Ideal.Gen.unchanged (F := Ideal) m g))
  · refine (θ_run Cert.Reference4Ideal.defs _ _).mono (fun r h c => ?_) (Cert.Reference4Ideal.Value.run (F := Ideal) m' g')
    obtain ⟨h0, hargs⟩ := h c
    obtain ⟨a0, a1⟩ := hagree c
    exact ⟨h0.trans (Cert.Weights.up m c _ _ a0.symm a1.symm), hargs⟩

theorem algebraic5 : Cert.algebraic_Kernel5Ideal_Reference5Ideal := by
  intro m g m' g' _ hagree
  refine ⟨fun c => (Cert.Kernel5Ideal.Gen.dats m 0 c).arrAt 2 Cert.Kernel5Ideal.cfg0.N, ?_, ?_⟩
  · exact (θ_run Cert.Kernel5Ideal.defs _ _).mono (fun r h c => ⟨(h.1 c).1 2, h.2 c⟩)
      (θ_run_and (Cert.Kernel5Ideal.Gen.run_main (F := Ideal) m g) (Cert.Kernel5Ideal.Gen.unchanged (F := Ideal) m g))
  · refine (θ_run Cert.Reference5Ideal.defs _ _).mono (fun r h c => ?_) (Cert.Reference5Ideal.Value.run (F := Ideal) m' g')
    obtain ⟨h0, hargs⟩ := h c
    obtain ⟨a0, a1⟩ := hagree c
    exact ⟨h0.trans (Cert.Weights.down m c _ _ a0.symm a1.symm), hargs⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts, Cert.Pre_finite2.Gen.facts,
  fun m g _ => Cert.Kernel.Gen.frame m g,
  fun m g _ => Cert.KernelIdeal.Gen.frame m g,
  fun m g _ => Cert.KernelIdeal.Gen.frame m g,
  fun m g _ => reference m g,
  fun m g _ => reference m g,
  fun m g _ => Cert.Kernel2.Gen.frame m g,
  fun m g _ => Cert.Kernel2Ideal.Gen.frame m g,
  fun m g _ => Cert.Kernel2Ideal.Gen.frame m g,
  fun m g _ => reference2 m g,
  fun m g _ => reference2 m g,
  fun m g _ => Cert.Kernel3.Gen.frame m g,
  fun m g _ => Cert.Kernel3Ideal.Gen.frame m g,
  fun m g _ => reference3 m g,
  fun m g _ => Cert.Kernel4.Gen.frame m g,
  fun m g _ => Cert.Kernel4Ideal.Gen.frame m g,
  fun m g _ => reference4 m g,
  fun m g _ => Cert.Kernel5.Gen.frame m g,
  fun m g _ => Cert.Kernel5Ideal.Gen.frame m g,
  fun m g _ => reference5 m g,
  trivial, algebraic,
  trivial, algebraic2,
  trivial, algebraic3,
  trivial, algebraic4,
  trivial, algebraic5⟩

end Cert.Proof

end
